-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_on_separated [hKernelIdeal : Cert.KernelIdeal.Facts] [hReferenceIdeal : Cert.ReferenceIdeal.Facts] [hOn_separated : Cert.On_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![16384, 512]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.KernelIdeal.nD Cert.KernelIdeal.τ).loc Cert.KernelIdeal.main_v0_0) i = v0 c i)
          ∧ (∀ i : (⟨2, ![16384, 512]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16384, 512]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.ReferenceIdeal.nD Cert.ReferenceIdeal.τ).loc Cert.ReferenceIdeal.main_v44) i = v0 c i)
          ∧ (∀ i : (⟨2, ![16384, 512]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2 i = 1#1 → r.2.mem ((c.tc : Thread Cert.ReferenceIdeal.nD Cert.ReferenceIdeal.τ).loc Cert.ReferenceIdeal.main_v65) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hOn_separated : Cert.On_separated.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_separated (hKernelIdeal := hKernelIdeal) (hReferenceIdeal := hReferenceIdeal) (hOn_separated := hOn_separated)
-- ==== On_separated.lean ====
abbrev S16384x256 : Shape := ⟨2, ![16384, 256]⟩
abbrev S16384x64 : Shape := ⟨2, ![16384, 64]⟩
abbrev S320x1024 : Shape := ⟨2, ![320, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S1024x256 : Shape := ⟨2, ![1024, 256]⟩
abbrev S256 : Shape := ⟨1, ![256]⟩
abbrev S256x512 : Shape := ⟨2, ![256, 512]⟩
abbrev S16384x320 : Shape := ⟨2, ![16384, 320]⟩
abbrev S16384x1024 : Shape := ⟨2, ![16384, 1024]⟩
abbrev S1x1024 : Shape := ⟨2, ![1, 1024]⟩
abbrev S_ : Shape := ⟨0, ![]⟩
abbrev S16384x512 : Shape := ⟨2, ![16384, 512]⟩
abbrev S1x512 : Shape := ⟨2, ![1, 512]⟩
abbrev S1x256 : Shape := ⟨2, ![1, 256]⟩
abbrev S16384x33 : Shape := ⟨2, ![16384, 33]⟩
abbrev S16384x1 : Shape := ⟨2, ![16384, 1]⟩
abbrev S16384 : Shape := ⟨1, ![16384]⟩

class Facts : Prop where
  concatenates_S16384x256_S16384x64_S16384x320_d1 : Shape.Concatenates [S16384x256, S16384x64] S16384x320 1
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  sliceFits_S16384x512_S16384x33 : S16384x512.Slices (fun _ => 0) S16384x33
  slices_S16384x33_S16384x1_0_32 : S16384x33.Slices ![0, 32] S16384x1
  shapeCasts_S16384x1_S16384 : S16384x1.ShapeCasts S16384
  slices_S16384x33_S16384x1_0_0 : S16384x33.Slices ![0, 0] S16384x1
  bcast_S_S16384 : S_.BroadcastsInDim S16384 (![] : Fin 0 → Fin S16384.rank)
  slices_S16384x33_S16384x1_0_31 : S16384x33.Slices ![0, 31] S16384x1
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  dot_S16384x320_S320x1024_S16384x1024_1_0_0_1_n_n_wf : DotDims.WF S16384x320 S320x1024 S16384x1024 [1] [0] [0] [1] [] []
  dot_S16384x1024_S1024x1024_S16384x1024_1_0_0_1_n_n_wf : DotDims.WF S16384x1024 S1024x1024 S16384x1024 [1] [0] [0] [1] [] []
  dot_S16384x1024_S1024x512_S16384x512_1_0_0_1_n_n_wf : DotDims.WF S16384x1024 S1024x512 S16384x512 [1] [0] [0] [1] [] []
  dot_S16384x1024_S1024x256_S16384x256_1_0_0_1_n_n_wf : DotDims.WF S16384x1024 S1024x256 S16384x256 [1] [0] [0] [1] [] []
  dot_S16384x256_S256x512_S16384x512_1_0_0_1_n_n_wf : DotDims.WF S16384x256 S256x512 S16384x512 [1] [0] [0] [1] [] []

variable [Facts]

def dot_S16384x320_S320x1024_S16384x1024_1_0_0_1_n_n : DotDims S16384x320 S320x1024 S16384x1024 where
  lhsContracting := [1]
  rhsContracting := [0]
  lhsNonContracting := [0]
  rhsNonContracting := [1]
  lhsBatch := []
  rhsBatch := []
  wf := dot_S16384x320_S320x1024_S16384x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf
def dot_S16384x256_S256x512_S16384x512_1_0_0_1_n_n : DotDims S16384x256 S256x512 S16384x512 where
  lhsContracting := [1]
  rhsContracting := [0]
  lhsNonContracting := [0]
  rhsNonContracting := [1]
  lhsBatch := []
  rhsBatch := []
  wf := dot_S16384x256_S256x512_S16384x512_1_0_0_1_n_n_wf
def fn_relu {F : FTy → Type} [FloatOps F] (arg0 : FVec F S16384x1024 .f32) : FVec F S16384x1024 .f32 :=
  let cst : FVec F S_ .f32 := constant S_ .f32 0x00000000#32
  let v0 : FVec F S16384x1024 .f32 := broadcastInDim S16384x1024 ![] bcast_S_S16384x1024 cst
  let v1 : FVec F S16384x1024 .f32 := maximumf arg0 v0
  v1

def fn_relu_0 {F : FTy → Type} [FloatOps F] (arg0 : FVec F S16384x256 .f32) : FVec F S16384x256 .f32 :=
  let cst : FVec F S_ .f32 := constant S_ .f32 0x00000000#32
  let v0 : FVec F S16384x256 .f32 := broadcastInDim S16384x256 ![] bcast_S_S16384x256 cst
  let v1 : FVec F S16384x256 .f32 := maximumf arg0 v0
  v1

def fn_part2 {F : FTy → Type} [FloatOps F] (main_v36 : IVec S16384x512 1) (main_values_0 : FVec F S16384x33 .f32) (main_v39 : FVec F S16384 .f32) (main_v41 : FVec F S16384 .f32) (main_cst_2 : FVec F S_ .f32) : IVec S16384x512 1 × IVec S16384x512 1 :=
  let main_v42 : FVec F S16384 .f32 := broadcastInDim S16384 ![] bcast_S_S16384 main_cst_2
  let main_v43 : FVec F S16384 .f32 := mulf main_v41 main_v42
  let main_v44 : FVec F S16384 .f32 := addf main_v39 main_v43
  let main_v45 : FVec F S16384x1 .f32 := (extractStridedSlice S16384x1 ![0, 31] · slices_S16384x33_S16384x1_0_31) main_values_0
  let main_v46 : FVec F S16384 .f32 := shapeCast S16384 main_v45 shapeCasts_S16384x1_S16384
  let main_v47 : IVec S16384 1 := cmpf .olt main_v44 main_v46
  let main_v48 : IVec S16384x1 1 := broadcastInDim S16384x1 ![0] bcast_S16384_S16384x1_0 main_v47
  let main_v49 : IVec S16384x512 1 := broadcastInDim S16384x512 ![0, 1] bcast_S16384x1_S16384x512_0_1 main_v48
  (main_v36, main_v49)

def fn_part1 {F : FTy → Type} [FloatOps F] (main_v14 : FVec F S16384x512 .f32) (main_v23 : FVec F S16384x512 .f32) : IVec S16384x512 1 × IVec S16384x512 1 :=
  let main_v24 : FVec F S16384x512 .f32 := Host.absf main_v14
  let main_values : FVec F S16384x33 .f32 := (fun x => (Host.topK S16384x33 1 (FloatOps.cmpfTotal .gt) x sliceFits_S16384x512_S16384x33).1) main_v24
  let main_indices : IVec S16384x33 32 := (fun x => (Host.topK S16384x33 1 (FloatOps.cmpfTotal .gt) x sliceFits_S16384x512_S16384x33).2) main_v24
  let main_v25 : FVec F S16384x1 .f32 := (extractStridedSlice S16384x1 ![0, 32] · slices_S16384x33_S16384x1_0_32) main_values
  let main_v26 : FVec F S16384 .f32 := shapeCast S16384 main_v25 shapeCasts_S16384x1_S16384
  let main_v27 : FVec F S16384x1 .f32 := (extractStridedSlice S16384x1 ![0, 0] · slices_S16384x33_S16384x1_0_0) main_values
  let main_v28 : FVec F S16384 .f32 := shapeCast S16384 main_v27 shapeCasts_S16384x1_S16384
  let main_cst : FVec F S_ .f32 := constant S_ .f32 0x35800000#32
  let main_v29 : FVec F S16384 .f32 := broadcastInDim S16384 ![] bcast_S_S16384 main_cst
  let main_v30 : FVec F S16384 .f32 := mulf main_v28 main_v29
  let main_v31 : FVec F S16384 .f32 := addf main_v26 main_v30
  let main_v32 : FVec F S16384x1 .f32 := (extractStridedSlice S16384x1 ![0, 31] · slices_S16384x33_S16384x1_0_31) main_values
  let main_v33 : FVec F S16384 .f32 := shapeCast S16384 main_v32 shapeCasts_S16384x1_S16384
  let main_v34 : IVec S16384 1 := cmpf .olt main_v31 main_v33
  let main_v35 : IVec S16384x1 1 := broadcastInDim S16384x1 ![0] bcast_S16384_S16384x1_0 main_v34
  let main_v36 : IVec S16384x512 1 := broadcastInDim S16384x512 ![0, 1] bcast_S16384x1_S16384x512_0_1 main_v35
  let main_v37 : FVec F S16384x512 .f32 := Host.absf main_v23
  let main_values_0 : FVec F S16384x33 .f32 := (fun x => (Host.topK S16384x33 1 (FloatOps.cmpfTotal .gt) x sliceFits_S16384x512_S16384x33).1) main_v37
  let main_indices_1 : IVec S16384x33 32 := (fun x => (Host.topK S16384x33 1 (FloatOps.cmpfTotal .gt) x sliceFits_S16384x512_S16384x33).2) main_v37
  let main_v38 : FVec F S16384x1 .f32 := (extractStridedSlice S16384x1 ![0, 32] · slices_S16384x33_S16384x1_0_32) main_values_0
  let main_v39 : FVec F S16384 .f32 := shapeCast S16384 main_v38 shapeCasts_S16384x1_S16384
  let main_v40 : FVec F S16384x1 .f32 := (extractStridedSlice S16384x1 ![0, 0] · slices_S16384x33_S16384x1_0_0) main_values_0
  let main_v41 : FVec F S16384 .f32 := shapeCast S16384 main_v40 shapeCasts_S16384x1_S16384
  let main_cst_2 : FVec F S_ .f32 := constant S_ .f32 0x35800000#32
  fn_part2 (F := F) main_v36 main_values_0 main_v39 main_v41 main_cst_2

def fn {F : FTy → Type} [FloatOps F] (main_arg0 : FVec F S16384x256 .f32) (main_arg1 : FVec F S16384x64 .f32) (main_arg2 : FVec F S320x1024 .f32) (main_arg3 : FVec F S1024 .f32) (main_arg4 : FVec F S1024x1024 .f32) (main_arg5 : FVec F S1024 .f32) (main_arg6 : FVec F S1024x512 .f32) (main_arg7 : FVec F S512 .f32) (main_arg8 : FVec F S1024x256 .f32) (main_arg9 : FVec F S256 .f32) (main_arg10 : FVec F S256x512 .f32) (main_arg11 : FVec F S512 .f32) : IVec S16384x512 1 × IVec S16384x512 1 :=
  let main_v0 : FVec F S16384x320 .f32 := (fun a b => concatenate S16384x320 1 [⟨S16384x256, a⟩, ⟨S16384x64, b⟩] concatenates_S16384x256_S16384x64_S16384x320_d1) main_arg0 main_arg1
  let main_v1 : FVec F S16384x1024 .f32 := (fun l r => Host.dotGeneral dot_S16384x320_S320x1024_S16384x1024_1_0_0_1_n_n none l r) main_v0 main_arg2
  let main_v2 : FVec F S1x1024 .f32 := broadcastInDim S1x1024 ![1] bcast_S1024_S1x1024_1 main_arg3
  let main_v3 : FVec F S16384x1024 .f32 := broadcastInDim S16384x1024 ![0, 1] bcast_S1x1024_S16384x1024_0_1 main_v2
  let main_v4 : FVec F S16384x1024 .f32 := addf main_v1 main_v3
  let main_v5 : FVec F S16384x1024 .f32 := fn_relu (F := F) main_v4
  let main_v6 : FVec F S16384x1024 .f32 := (fun l r => Host.dotGeneral dot_S16384x1024_S1024x1024_S16384x1024_1_0_0_1_n_n none l r) main_v5 main_arg4
  let main_v7 : FVec F S1x1024 .f32 := broadcastInDim S1x1024 ![1] bcast_S1024_S1x1024_1 main_arg5
  let main_v8 : FVec F S16384x1024 .f32 := broadcastInDim S16384x1024 ![0, 1] bcast_S1x1024_S16384x1024_0_1 main_v7
  let main_v9 : FVec F S16384x1024 .f32 := addf main_v6 main_v8
  let main_v10 : FVec F S16384x1024 .f32 := fn_relu (F := F) main_v9
  let main_v11 : FVec F S16384x512 .f32 := (fun l r => Host.dotGeneral dot_S16384x1024_S1024x512_S16384x512_1_0_0_1_n_n none l r) main_v10 main_arg6
  let main_v12 : FVec F S1x512 .f32 := broadcastInDim S1x512 ![1] bcast_S512_S1x512_1 main_arg7
  let main_v13 : FVec F S16384x512 .f32 := broadcastInDim S16384x512 ![0, 1] bcast_S1x512_S16384x512_0_1 main_v12
  let main_v14 : FVec F S16384x512 .f32 := addf main_v11 main_v13
  let main_v15 : FVec F S16384x256 .f32 := (fun l r => Host.dotGeneral dot_S16384x1024_S1024x256_S16384x256_1_0_0_1_n_n none l r) main_v10 main_arg8
  let main_v16 : FVec F S1x256 .f32 := broadcastInDim S1x256 ![1] bcast_S256_S1x256_1 main_arg9
  let main_v17 : FVec F S16384x256 .f32 := broadcastInDim S16384x256 ![0, 1] bcast_S1x256_S16384x256_0_1 main_v16
  let main_v18 : FVec F S16384x256 .f32 := addf main_v15 main_v17
  let main_v19 : FVec F S16384x256 .f32 := fn_relu_0 (F := F) main_v18
  let main_v20 : FVec F S16384x512 .f32 := (fun l r => Host.dotGeneral dot_S16384x256_S256x512_S16384x512_1_0_0_1_n_n none l r) main_v19 main_arg10
  let main_v21 : FVec F S1x512 .f32 := broadcastInDim S1x512 ![1] bcast_S512_S1x512_1 main_arg11
  let main_v22 : FVec F S16384x512 .f32 := broadcastInDim S16384x512 ![0, 1] bcast_S1x512_S16384x512_0_1 main_v21
  let main_v23 : FVec F S16384x512 .f32 := addf main_v20 main_v22
  fn_part1 (F := F) main_v14 main_v23
-- ==== Kernel.lean ====
abbrev S16384x256 : Shape := ⟨2, ![16384, 256]⟩
abbrev S16384x64 : Shape := ⟨2, ![16384, 64]⟩
abbrev S320x1024 : Shape := ⟨2, ![320, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S1024x256 : Shape := ⟨2, ![1024, 256]⟩
abbrev S256 : Shape := ⟨1, ![256]⟩
abbrev S256x512 : Shape := ⟨2, ![256, 512]⟩
abbrev S256x1024 : Shape := ⟨2, ![256, 1024]⟩
abbrev S64x1024 : Shape := ⟨2, ![64, 1024]⟩
abbrev S1x1024 : Shape := ⟨2, ![1, 1024]⟩
abbrev S1x512 : Shape := ⟨2, ![1, 512]⟩
abbrev S1x256 : Shape := ⟨2, ![1, 256]⟩
abbrev S16384x512 : Shape := ⟨2, ![16384, 512]⟩
abbrev S2048x256 : Shape := ⟨2, ![2048, 256]⟩
abbrev S2048x64 : Shape := ⟨2, ![2048, 64]⟩
abbrev S2048x512 : Shape := ⟨2, ![2048, 512]⟩
abbrev S1024x64 : Shape := ⟨2, ![1024, 64]⟩
abbrev S1024x1 : Shape := ⟨2, ![1024, 1]⟩

abbrev nBuf : Space → Nat
  | .hbm => 21
  | .vmem => 19
  | .smem => 0
  | _ => 0

abbrev bufTy : (tb : Table) → Fin (tcTables nBuf tb) → BufTy
  | .hbm, ⟨0, _⟩ => ⟨S16384x256, .f32⟩
  | .hbm, ⟨1, _⟩ => ⟨S16384x64, .f32⟩
  | .hbm, ⟨2, _⟩ => ⟨S320x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S1024x256, .f32⟩
  | .hbm, ⟨9, _⟩ => ⟨S256, .f32⟩
  | .hbm, ⟨10, _⟩ => ⟨S256x512, .f32⟩
  | .hbm, ⟨11, _⟩ => ⟨S512, .f32⟩
  | .hbm, ⟨12, _⟩ => ⟨S256x1024, .f32⟩
  | .hbm, ⟨13, _⟩ => ⟨S64x1024, .f32⟩
  | .hbm, ⟨14, _⟩ => ⟨S1x1024, .f32⟩
  | .hbm, ⟨15, _⟩ => ⟨S1x1024, .f32⟩
  | .hbm, ⟨16, _⟩ => ⟨S1x512, .f32⟩
  | .hbm, ⟨17, _⟩ => ⟨S1x256, .f32⟩
  | .hbm, ⟨18, _⟩ => ⟨S1x512, .f32⟩
  | .hbm, ⟨19, _⟩ => ⟨S16384x512, .f32⟩
  | .hbm, ⟨20, _⟩ => ⟨S16384x512, .f32⟩
  | .local _ .vmem, ⟨0, _⟩ => ⟨S2048x256, .f32⟩
  | .local _ .vmem, ⟨1, _⟩ => ⟨S2048x256, .f32⟩
  | .local _ .vmem, ⟨2, _⟩ => ⟨S2048x64, .f32⟩
  | .local _ .vmem, ⟨3, _⟩ => ⟨S2048x64, .f32⟩
  | .local _ .vmem, ⟨4, _⟩ => ⟨S256x1024, .f32⟩
  | .local _ .vmem, ⟨5, _⟩ => ⟨S64x1024, .f32⟩
  | .local _ .vmem, ⟨6, _⟩ => ⟨S1x1024, .f32⟩
  | .local _ .vmem, ⟨7, _⟩ => ⟨S1024x1024, .f32⟩
  | .local _ .vmem, ⟨8, _⟩ => ⟨S1x1024, .f32⟩
  | .local _ .vmem, ⟨9, _⟩ => ⟨S1024x512, .f32⟩
  | .local _ .vmem, ⟨10, _⟩ => ⟨S1x512, .f32⟩
  | .local _ .vmem, ⟨11, _⟩ => ⟨S1024x256, .f32⟩
  | .local _ .vmem, ⟨12, _⟩ => ⟨S1x256, .f32⟩
  | .local _ .vmem, ⟨13, _⟩ => ⟨S256x512, .f32⟩
  | .local _ .vmem, ⟨14, _⟩ => ⟨S1x512, .f32⟩
  | .local _ .vmem, ⟨15, _⟩ => ⟨S2048x512, .f32⟩
  | .local _ .vmem, ⟨16, _⟩ => ⟨S2048x512, .f32⟩
  | .local _ .vmem, ⟨17, _⟩ => ⟨S2048x512, .f32⟩
  | .local _ .vmem, ⟨18, _⟩ => ⟨S2048x512, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_v0_0 : Ref sig .tc := ⟨.hbm, 19, rfl⟩
abbrev main_v0_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S16384x256 : Shape := ⟨2, ![16384, 256]⟩
abbrev S16384x64 : Shape := ⟨2, ![16384, 64]⟩
abbrev S320x1024 : Shape := ⟨2, ![320, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S1024x256 : Shape := ⟨2, ![1024, 256]⟩
abbrev S256 : Shape := ⟨1, ![256]⟩
abbrev S256x512 : Shape := ⟨2, ![256, 512]⟩
abbrev S16384x320 : Shape := ⟨2, ![16384, 320]⟩
abbrev S16384x1024 : Shape := ⟨2, ![16384, 1024]⟩
abbrev S1x1024 : Shape := ⟨2, ![1, 1024]⟩
abbrev S_ : Shape := ⟨0, ![]⟩
abbrev S16384x512 : Shape := ⟨2, ![16384, 512]⟩
abbrev S1x512 : Shape := ⟨2, ![1, 512]⟩
abbrev S1x256 : Shape := ⟨2, ![1, 256]⟩
abbrev S16384x32 : Shape := ⟨2, ![16384, 32]⟩
abbrev S16384 : Shape := ⟨1, ![16384]⟩
abbrev S16384x1 : Shape := ⟨2, ![16384, 1]⟩
abbrev S16384x32x1 : Shape := ⟨3, ![16384, 32, 1]⟩
abbrev S16384x32x2 : Shape := ⟨3, ![16384, 32, 2]⟩

abbrev nBuf : Space → Nat
  | .hbm => 100
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x64, .f32⟩
  | .hbm, ⟨2, _⟩ => ⟨S320x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S1024x256, .f32⟩
  | .hbm, ⟨9, _⟩ => ⟨S256, .f32⟩
  | .hbm, ⟨10, _⟩ => ⟨S256x512, .f32⟩
  | .hbm, ⟨11, _⟩ => ⟨S512, .f32⟩
  | .hbm, ⟨12, _⟩ => ⟨S16384x320, .f32⟩
  | .hbm, ⟨13, _⟩ => ⟨S16384x1024, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x512, .f32⟩
  | .hbm, ⟨28, _⟩ => ⟨S1x512, .f32⟩
  | .hbm, ⟨29, _⟩ => ⟨S16384x512, .f32⟩
  | .hbm, ⟨30, _⟩ => ⟨S16384x512, .f32⟩
  | .hbm, ⟨31, _⟩ => ⟨S16384x256, .f32⟩
  | .hbm, ⟨32, _⟩ => ⟨S1x256, .f32⟩
  | .hbm, ⟨33, _⟩ => ⟨S16384x256, .f32⟩
  | .hbm, ⟨34, _⟩ => ⟨S16384x256, .f32⟩
  | .hbm, ⟨35, _⟩ => ⟨S_, .f32⟩
  | .hbm, ⟨36, _⟩ => ⟨S16384x256, .f32⟩
  | .hbm, ⟨37, _⟩ => ⟨S16384x256, .f32⟩
  | .hbm, ⟨38, _⟩ => ⟨S16384x512, .f32⟩
  | .hbm, ⟨39, _⟩ => ⟨S1x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x32, .f32⟩
  | .hbm, ⟨44, _⟩ => ⟨S16384x32, .i32⟩
  | .hbm, ⟨45, _⟩ => ⟨S16384, .i32⟩
  | .hbm, ⟨46, _⟩ => ⟨S16384x1, .i32⟩
  | .hbm, ⟨47, _⟩ => ⟨S_, .f32⟩
  | .hbm, ⟨48, _⟩ => ⟨S16384x512, .f32⟩
  | .hbm, ⟨49, _⟩ => ⟨S_, .i32⟩
  | .hbm, ⟨50, _⟩ => ⟨S16384x1, .i32⟩
  | .hbm, ⟨51, _⟩ => ⟨S16384x1, .i1⟩
  | .hbm, ⟨52, _⟩ => ⟨S_, .i32⟩
  | .hbm, ⟨53, _⟩ => ⟨S16384x1, .i32⟩
  | .hbm, ⟨54, _⟩ => ⟨S16384x1, .i32⟩
  | .hbm, ⟨55, _⟩ => ⟨S16384x1, .i32⟩
  | .hbm, ⟨56, _⟩ => ⟨S_, .i32⟩
  | .hbm, ⟨57, _⟩ => ⟨S16384x32, .i32⟩
  | .hbm, ⟨58, _⟩ => ⟨S16384x32, .i1⟩
  | .hbm, ⟨59, _⟩ => ⟨S_, .i32⟩
  | .hbm, ⟨60, _⟩ => ⟨S16384x32, .i32⟩
  | .hbm, ⟨61, _⟩ => ⟨S16384x32, .i32⟩
  | .hbm, ⟨62, _⟩ => ⟨S16384x32, .i32⟩
  | .hbm, ⟨63, _⟩ => ⟨S16384x32, .i32⟩
  | .hbm, ⟨64, _⟩ => ⟨S16384x32x1, .i32⟩
  | .hbm, ⟨65, _⟩ => ⟨S16384x32x1, .i32⟩
  | .hbm, ⟨66, _⟩ => ⟨S16384x32x2, .i32⟩
  | .hbm, ⟨67, _⟩ => ⟨S_, .f32⟩
  | .hbm, ⟨68, _⟩ => ⟨S16384x32, .f32⟩
  | .hbm, ⟨69, _⟩ => ⟨S16384x512, .f32⟩
  | .hbm, ⟨70, _⟩ => ⟨S16384x512, .f32⟩
  | .hbm, ⟨71, _⟩ => ⟨S16384x512, .f32⟩
  | .hbm, ⟨72, _⟩ => ⟨S16384x32, .f32⟩
  | .hbm, ⟨73, _⟩ => ⟨S16384x32, .i32⟩
  | .hbm, ⟨74, _⟩ => ⟨S16384, .i32⟩
  | .hbm, ⟨75, _⟩ => ⟨S16384x1, .i32⟩
  | .hbm, ⟨76, _⟩ => ⟨S_, .f32⟩
  | .hbm, ⟨77, _⟩ => ⟨S16384x512, .f32⟩
  | .hbm, ⟨78, _⟩ => ⟨S_, .i32⟩
  | .hbm, ⟨79, _⟩ => ⟨S16384x1, .i32⟩
  | .hbm, ⟨80, _⟩ => ⟨S16384x1, .i1⟩
  | .hbm, ⟨81, _⟩ => ⟨S_, .i32⟩
  | .hbm, ⟨82, _⟩ => ⟨S16384x1, .i32⟩
  | .hbm, ⟨83, _⟩ => ⟨S16384x1, .i32⟩
  | .hbm, ⟨84, _⟩ => ⟨S16384x1, .i32⟩
  | .hbm, ⟨85, _⟩ => ⟨S_, .i32⟩
  | .hbm, ⟨86, _⟩ => ⟨S16384x32, .i32⟩
  | .hbm, ⟨87, _⟩ => ⟨S16384x32, .i1⟩
  | .hbm, ⟨88, _⟩ => ⟨S_, .i32⟩
  | .hbm, ⟨89, _⟩ => ⟨S16384x32, .i32⟩
  | .hbm, ⟨90, _⟩ => ⟨S16384x32, .i32⟩
  | .hbm, ⟨91, _⟩ => ⟨S16384x32, .i32⟩
  | .hbm, ⟨92, _⟩ => ⟨S16384x32, .i32⟩
  | .hbm, ⟨93, _⟩ => ⟨S16384x32x1, .i32⟩
  | .hbm, ⟨94, _⟩ => ⟨S16384x32x1, .i32⟩
  | .hbm, ⟨95, _⟩ => ⟨S16384x32x2, .i32⟩
  | .hbm, ⟨96, _⟩ => ⟨S_, .f32⟩
  | .hbm, ⟨97, _⟩ => ⟨S16384x32, .f32⟩
  | .hbm, ⟨98, _⟩ => ⟨S16384x512, .f32⟩
  | .hbm, ⟨99, _⟩ => ⟨S16384x512, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call1_cst : Ref sig .tc := ⟨.hbm, 24, rfl⟩
abbrev main_call1_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call2_cst : Ref sig .tc := ⟨.hbm, 35, rfl⟩
abbrev main_call2_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_values : Ref sig .tc := ⟨.hbm, 43, rfl⟩
abbrev main_indices : Ref sig .tc := ⟨.hbm, 44, rfl⟩
abbrev main_v25 : Ref sig .tc := ⟨.hbm, 45, rfl⟩
abbrev main_v26 : Ref sig .tc := ⟨.hbm, 46, rfl⟩
abbrev main_cst : Ref sig .tc := ⟨.hbm, 47, rfl⟩
abbrev main_v27 : Ref sig .tc := ⟨.hbm, 48, rfl⟩
abbrev main_c : Ref sig .tc := ⟨.hbm, 49, rfl⟩
abbrev main_v28 : Ref sig .tc := ⟨.hbm, 50, rfl⟩
abbrev main_v29 : Ref sig .tc := ⟨.hbm, 51, rfl⟩
abbrev main_c_0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_1 : Ref sig .tc := ⟨.hbm, 56, rfl⟩
abbrev main_v33 : Ref sig .tc := ⟨.hbm, 57, rfl⟩
abbrev main_v34 : Ref sig .tc := ⟨.hbm, 58, rfl⟩
abbrev main_c_2 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_3 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_values_4 : Ref sig .tc := ⟨.hbm, 72, rfl⟩
abbrev main_indices_5 : Ref sig .tc := ⟨.hbm, 73, rfl⟩
abbrev main_v46 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_c_7 : Ref sig .tc := ⟨.hbm, 78, rfl⟩
abbrev main_v49 : Ref sig .tc := ⟨.hbm, 79, rfl⟩
abbrev main_v50 : Ref sig .tc := ⟨.hbm, 80, rfl⟩
abbrev main_c_8 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c_9 : Ref sig .tc := ⟨.hbm, 85, rfl⟩
abbrev main_v54 : Ref sig .tc := ⟨.hbm, 86, rfl⟩
abbrev main_v55 : Ref sig .tc := ⟨.hbm, 87, rfl⟩
abbrev main_c_10 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_11 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩

abbrev nD : Nat := 1
abbrev τ : Topo := Topo.v7x

variable {F : FTy → Type} [FloatOps F]
-- ==== Proof.Inputs.lean ====
/-
  What a grid point's input blocks hold, as the arrays that the program was launched with: rows of the state and of the
  action, the two row ranges of the first weight matrix, the other weight matrices whole, and the bias vectors as rows.
-/
module

public import proofs.«01_k».proof.Proof.Gen.KernelIdeal.Frame
public import Idealize.ShloMosaic.Lib.ValueIdx
public import Idealize.ShloMosaic.Lib.ValueLayout
public import Idealize.ShloMosaic.Lib.Pipeline.Value
public import Idealize.ShloMosaic.Lib.StableHlo.Run
public import Idealize.ShloMosaic.Lib.StableHlo.RunRead

@[expose] public section

set_option maxRecDepth 16384

noncomputable section

namespace Cert.KernelIdeal.Inputs

open Cert.KernelIdeal Cert.KernelIdeal.Gen Idealize.ShloMosaic Idealize.ShloMosaic.TcCoe Idealize.ShloMosaic.ValueIdx Idealize.SL.Sem
open Idealize.ShloMosaic.StableHlo

variable {F : FTy → Type} [FloatOps F]
variable (m : (ℓ : Loc nD τ sig) → Buf (Elt F) ℓ) (c : Dev nD) (t : Fin cfg0.N)

/-- Row `p` of the block of point `t`, as a row of the whole array. -/
def row (p : Fin 2048) : Fin 16384 := ⟨2048 * t.val + p.val, by have ht : t.val < 8 := t.isLt; have := p.isLt; omega⟩

/-- Row `r` of a block's first half. -/
def low (r : Fin 1024) : Fin 2048 := ⟨r.val, by have := r.isLt; omega⟩

/-- Row `r` of a block's second half. -/
def high (r : Fin 1024) : Fin 2048 := ⟨1024 + r.val, by have := r.isLt; omega⟩

/-! ## The host's slices and reshapes -/

/-- The first weight matrix's state rows. -/
theorem entry_v0 : V m c main_call0_v0 = extractStridedSlice S256x1024 ![0, 0] (m ((c : Thread nD τ).loc main_arg2) : S320x1024.Idx → Elt F .f32) slices_S320x1024_S256x1024_0_0 := by
  unfold V hostOps0
  after_results
  rfl

/-- The first weight matrix's action rows. -/
theorem entry_v1 : V m c main_call0_v1 = extractStridedSlice S64x1024 ![256, 0] (m ((c : Thread nD τ).loc main_arg2) : S320x1024.Idx → Elt F .f32) slices_S320x1024_S64x1024_256_0 := by
  unfold V hostOps0
  after_results
  rfl

/-- The first bias as a row. -/
theorem entry_v2 : V m c main_call0_v2 = shapeCast S1x1024 (m ((c : Thread nD τ).loc main_arg3) : S1024.Idx → Elt F .f32) shapeCasts_S1024_S1x1024 := by
  unfold V hostOps0
  after_results
  rfl

/-- The second bias as a row. -/
theorem entry_v3 : V m c main_call0_v3 = shapeCast S1x1024 (m ((c : Thread nD τ).loc main_arg5) : S1024.Idx → Elt F .f32) shapeCasts_S1024_S1x1024 := by
  unfold V hostOps0
  after_results
  rfl

/-- The shared head's bias as a row. -/
theorem entry_v4 : V m c main_call0_v4 = shapeCast S1x512 (m ((c : Thread nD τ).loc main_arg7) : S512.Idx → Elt F .f32) shapeCasts_S512_S1x512 := by
  unfold V hostOps0
  after_results
  rfl

/-- The private head's first bias as a row. -/
theorem entry_v5 : V m c main_call0_v5 = shapeCast S1x256 (m ((c : Thread nD τ).loc main_arg9) : S256.Idx → Elt F .f32) shapeCasts_S256_S1x256 := by
  unfold V hostOps0
  after_results
  rfl

/-- The private head's second bias as a row. -/
theorem entry_v6 : V m c main_call0_v6 = shapeCast S1x512 (m ((c : Thread nD τ).loc main_arg11) : S512.Idx → Elt F .f32) shapeCasts_S512_S1x512 := by
  unfold V hostOps0
  after_results
  rfl

/-! ## The blocks -/

/-- The state block of point `t` starts at row `2048 t`. -/
theorem state_index : ∀ t : Fin grid0.N, win0_0.index t 0 = t.val ∧ win0_0.index t 1 = 0 := by decide +kernel

/-- The action block of point `t` starts at row `2048 t`. -/
theorem action_index : ∀ t : Fin grid0.N, win0_1.index t 0 = t.val ∧ win0_1.index t 1 = 0 := by decide +kernel

/-- The state block at an index. -/
theorem state_block (p : Fin 2048) (k : Fin 256) :
    (iblk m c 0 t : S2048x256.Idx → Elt F .f32) (ix2 p k) = (m ((c : Thread nD τ).loc main_arg0) : S16384x256.Idx → Elt F .f32) (ix2 (row t p) k) := by
  unfold iblk
  rw [View.read_apply]
  show V m c main_arg0 _ = _
  rw [V_main_arg0]
  refine congrArg (m ((c : Thread nD τ).loc main_arg0) : S16384x256.Idx → Elt F .f32) (funext fun a => Fin.ext ?_)
  match a with
  | ⟨0, _⟩ => show win0_0.index t 0 * 2048 + 1 * p.val = 2048 * t.val + p.val; rw [(state_index t).1]; omega
  | ⟨1, _⟩ => show win0_0.index t 1 * 256 + 1 * k.val = k.val; rw [(state_index t).2]; omega

/-- The action block at an index. -/
theorem action_block (p : Fin 2048) (k : Fin 64) :
    (iblk m c 1 t : S2048x64.Idx → Elt F .f32) (ix2 p k) = (m ((c : Thread nD τ).loc main_arg1) : S16384x64.Idx → Elt F .f32) (ix2 (row t p) k) := by
  unfold iblk
  rw [View.read_apply]
  show V m c main_arg1 _ = _
  rw [V_main_arg1]
  refine congrArg (m ((c : Thread nD τ).loc main_arg1) : S16384x64.Idx → Elt F .f32) (funext fun a => Fin.ext ?_)
  match a with
  | ⟨0, _⟩ => show win0_1.index t 0 * 2048 + 1 * p.val = 2048 * t.val + p.val; rw [(action_index t).1]; omega
  | ⟨1, _⟩ => show win0_1.index t 1 * 64 + 1 * k.val = k.val; rw [(action_index t).2]; omega

/-- Every window of weights or bias stays at the start of its array. -/
theorem fixed_index : ∀ (t : Fin grid0.N) (w : Fin 15), 2 ≤ w → w ≤ 12 → ∀ a, (win0 w).index t a = 0 := by decide +kernel

/-- So an element of its block sits at its own place in the array. -/
theorem fixed_place (w : Fin 15) (h : 2 ≤ w) (h' : w ≤ 12) (y : ((win0 w).xblock (grid0.coords t)).Idx) (a : Fin (win0 w).shape.rank) :
    (((win0 w).rect t).emb y a : ℕ) = y a :=
  (win0 w).rect_emb_val_of_index_zero t a (fixed_index t w h h' a) y

/-- The state weights' block is its array. -/
theorem block_2 : (iblk m c 2 t : S256x1024.Idx → Elt F .f32) = V m c main_call0_v0 :=
  funext fun y => congrArg (V m c main_call0_v0 : S256x1024.Idx → Elt F .f32) (funext fun a => Fin.ext (fixed_place t 2 (by decide) (by decide) y a))

/-- The action weights' block is its array. -/
theorem block_3 : (iblk m c 3 t : S64x1024.Idx → Elt F .f32) = V m c main_call0_v1 :=
  funext fun y => congrArg (V m c main_call0_v1 : S64x1024.Idx → Elt F .f32) (funext fun a => Fin.ext (fixed_place t 3 (by decide) (by decide) y a))

/-- The first bias's block is its array. -/
theorem block_4 : (iblk m c 4 t : S1x1024.Idx → Elt F .f32) = V m c main_call0_v2 :=
  funext fun y => congrArg (V m c main_call0_v2 : S1x1024.Idx → Elt F .f32) (funext fun a => Fin.ext (fixed_place t 4 (by decide) (by decide) y a))

/-- The second layer's weights' block is its array. -/
theorem block_5 : (iblk m c 5 t : S1024x1024.Idx → Elt F .f32) = V m c main_arg4 :=
  funext fun y => congrArg (V m c main_arg4 : S1024x1024.Idx → Elt F .f32) (funext fun a => Fin.ext (fixed_place t 5 (by decide) (by decide) y a))

/-- The second bias's block is its array. -/
theorem block_6 : (iblk m c 6 t : S1x1024.Idx → Elt F .f32) = V m c main_call0_v3 :=
  funext fun y => congrArg (V m c main_call0_v3 : S1x1024.Idx → Elt F .f32) (funext fun a => Fin.ext (fixed_place t 6 (by decide) (by decide) y a))

/-- The shared head's weights' block is its array. -/
theorem block_7 : (iblk m c 7 t : S1024x512.Idx → Elt F .f32) = V m c main_arg6 :=
  funext fun y => congrArg (V m c main_arg6 : S1024x512.Idx → Elt F .f32) (funext fun a => Fin.ext (fixed_place t 7 (by decide) (by decide) y a))

/-- The shared head's bias's block is its array. -/
theorem block_8 : (iblk m c 8 t : S1x512.Idx → Elt F .f32) = V m c main_call0_v4 :=
  funext fun y => congrArg (V m c main_call0_v4 : S1x512.Idx → Elt F .f32) (funext fun a => Fin.ext (fixed_place t 8 (by decide) (by decide) y a))

/-- The private head's first weights' block is its array. -/
theorem block_9 : (iblk m c 9 t : S1024x256.Idx → Elt F .f32) = V m c main_arg8 :=
  funext fun y => congrArg (V m c main_arg8 : S1024x256.Idx → Elt F .f32) (funext fun a => Fin.ext (fixed_place t 9 (by decide) (by decide) y a))

/-- The private head's first bias's block is its array. -/
theorem block_10 : (iblk m c 10 t : S1x256.Idx → Elt F .f32) = V m c main_call0_v5 :=
  funext fun y => congrArg (V m c main_call0_v5 : S1x256.Idx → Elt F .f32) (funext fun a => Fin.ext (fixed_place t 10 (by decide) (by decide) y a))

/-- The private head's second weights' block is its array. -/
theorem block_11 : (iblk m c 11 t : S256x512.Idx → Elt F .f32) = V m c main_arg10 :=
  funext fun y => congrArg (V m c main_arg10 : S256x512.Idx → Elt F .f32) (funext fun a => Fin.ext (fixed_place t 11 (by decide) (by decide) y a))

/-- The private head's second bias's block is its array. -/
theorem block_12 : (iblk m c 12 t : S1x512.Idx → Elt F .f32) = V m c main_call0_v6 :=
  funext fun y => congrArg (V m c main_call0_v6 : S1x512.Idx → Elt F .f32) (funext fun a => Fin.ext (fixed_place t 12 (by decide) (by decide) y a))

/-! ## What a half of a block loads -/

/-- The offsets of a whole load. -/
theorem offsets_zero : (![0, 0] : Fin 2 → ℕ) = fun _ => 0 := by decide

/-- The first half's state rows. -/
theorem state_low (r : Fin 1024) (k : Fin 256) :
    View.ld (iblk m c 0 t : S2048x256.Idx → Elt F .f32) r0_0 (ix2 r k) = (m ((c : Thread nD τ).loc main_arg0) : S16384x256.Idx → Elt F .f32) (ix2 (row t (low r)) k) := by
  refine Eq.trans (congrArg (iblk m c 0 t : S2048x256.Idx → Elt F .f32) (funext fun a => Fin.ext ?_)) (state_block m c t (low r) k)
  match a with
  | ⟨0, _⟩ => show 0 + 1 * r.val = _; unfold low; show _ = r.val; omega
  | ⟨1, _⟩ => show 0 + 1 * k.val = k.val; omega

/-- The second half's state rows. -/
theorem state_high (r : Fin 1024) (k : Fin 256) :
    View.ld (iblk m c 0 t : S2048x256.Idx → Elt F .f32) r0_12 (ix2 r k) = (m ((c : Thread nD τ).loc main_arg0) : S16384x256.Idx → Elt F .f32) (ix2 (row t (high r)) k) := by
  refine Eq.trans (congrArg (iblk m c 0 t : S2048x256.Idx → Elt F .f32) (funext fun a => Fin.ext ?_)) (state_block m c t (high r) k)
  match a with
  | ⟨0, _⟩ => show 1024 + 1 * r.val = _; unfold high; show _ = 1024 + r.val; omega
  | ⟨1, _⟩ => show 0 + 1 * k.val = k.val; omega

/-- The first half's action rows. -/
theorem action_low (r : Fin 1024) (k : Fin 64) :
    View.ld (iblk m c 1 t : S2048x64.Idx → Elt F .f32) r0_2 (ix2 r k) = (m ((c : Thread nD τ).loc main_arg1) : S16384x64.Idx → Elt F .f32) (ix2 (row t (low r)) k) := by
  refine Eq.trans (congrArg (iblk m c 1 t : S2048x64.Idx → Elt F .f32) (funext fun a => Fin.ext ?_)) (action_block m c t (low r) k)
  match a with
  | ⟨0, _⟩ => show 0 + 1 * r.val = _; unfold low; show _ = r.val; omega
  | ⟨1, _⟩ => show 0 + 1 * k.val = k.val; omega

/-- The second half's action rows. -/
theorem action_high (r : Fin 1024) (k : Fin 64) :
    View.ld (iblk m c 1 t : S2048x64.Idx → Elt F .f32) r0_13 (ix2 r k) = (m ((c : Thread nD τ).loc main_arg1) : S16384x64.Idx → Elt F .f32) (ix2 (row t (high r)) k) := by
  refine Eq.trans (congrArg (iblk m c 1 t : S2048x64.Idx → Elt F .f32) (funext fun a => Fin.ext ?_)) (action_block m c t (high r) k)
  match a with
  | ⟨0, _⟩ => show 1024 + 1 * r.val = _; unfold high; show _ = 1024 + r.val; omega
  | ⟨1, _⟩ => show 0 + 1 * k.val = k.val; omega

/-- The state rows of the first weights, as loaded. -/
theorem state_weights (k : Fin 256) (n : Fin 1024) :
    View.ld (iblk m c 2 t : S256x1024.Idx → Elt F .f32) r0_1 (ix2 k n) = (m ((c : Thread nD τ).loc main_arg2) : S320x1024.Idx → Elt F .f32) (ix2 (Fin.castAdd 64 k : Fin 320) n) := by
  refine (congrFun (View.ld_unit_zero offsets_zero _ _) _).trans ?_
  rw [block_2, entry_v0]
  refine extractStridedSlice_apply _ _ _ _ _ (fun a => ?_)
  match a with
  | ⟨0, _⟩ => exact (Nat.zero_add _).symm
  | ⟨1, _⟩ => exact (Nat.zero_add _).symm

/-- The action rows of the first weights, as loaded. -/
theorem action_weights (k : Fin 64) (n : Fin 1024) :
    View.ld (iblk m c 3 t : S64x1024.Idx → Elt F .f32) r0_3 (ix2 k n) = (m ((c : Thread nD τ).loc main_arg2) : S320x1024.Idx → Elt F .f32) (ix2 (Fin.natAdd 256 k : Fin 320) n) := by
  refine (congrFun (View.ld_unit_zero offsets_zero _ _) _).trans ?_
  rw [block_3, entry_v1]
  refine extractStridedSlice_apply _ _ _ _ _ (fun a => ?_)
  match a with
  | ⟨0, _⟩ => rfl
  | ⟨1, _⟩ => exact (Nat.zero_add _).symm

/-- The first bias, as loaded. -/
theorem first_bias (n : Fin 1024) :
    View.ld (iblk m c 4 t : S1x1024.Idx → Elt F .f32) r0_4 (ix2 (0 : Fin 1) n) = (m ((c : Thread nD τ).loc main_arg3) : S1024.Idx → Elt F .f32) (ix1 n) := by
  refine (congrFun (View.ld_unit_zero offsets_zero _ _) _).trans ?_
  rw [block_4, entry_v2]
  exact shapeCast_a_1a_apply _ _ _ _

/-- The second layer's weights, as loaded. -/
theorem second_weights (k n : Fin 1024) :
    View.ld (iblk m c 5 t : S1024x1024.Idx → Elt F .f32) r0_5 (ix2 k n) = (m ((c : Thread nD τ).loc main_arg4) : S1024x1024.Idx → Elt F .f32) (ix2 k n) := by
  refine (congrFun (View.ld_unit_zero offsets_zero _ _) _).trans ?_
  rw [block_5, V_main_arg4]

/-- The second bias, as loaded. -/
theorem second_bias (n : Fin 1024) :
    View.ld (iblk m c 6 t : S1x1024.Idx → Elt F .f32) r0_4 (ix2 (0 : Fin 1) n) = (m ((c : Thread nD τ).loc main_arg5) : S1024.Idx → Elt F .f32) (ix1 n) := by
  refine (congrFun (View.ld_unit_zero offsets_zero _ _) _).trans ?_
  rw [block_6, entry_v3]
  exact shapeCast_a_1a_apply _ _ _ _

/-- The shared head's weights, as loaded. -/
theorem shared_weights (k : Fin 1024) (n : Fin 512) :
    View.ld (iblk m c 7 t : S1024x512.Idx → Elt F .f32) r0_6 (ix2 k n) = (m ((c : Thread nD τ).loc main_arg6) : S1024x512.Idx → Elt F .f32) (ix2 k n) := by
  refine (congrFun (View.ld_unit_zero offsets_zero _ _) _).trans ?_
  rw [block_7, V_main_arg6]

/-- The shared head's bias, as loaded. -/
theorem shared_bias (n : Fin 512) :
    View.ld (iblk m c 8 t : S1x512.Idx → Elt F .f32) r0_7 (ix2 (0 : Fin 1) n) = (m ((c : Thread nD τ).loc main_arg7) : S512.Idx → Elt F .f32) (ix1 n) := by
  refine (congrFun (View.ld_unit_zero offsets_zero _ _) _).trans ?_
  rw [block_8, entry_v4]
  exact shapeCast_a_1a_apply _ _ _ _

/-- The private head's first weights, as loaded. -/
theorem private_weights (k : Fin 1024) (n : Fin 256) :
    View.ld (iblk m c 9 t : S1024x256.Idx → Elt F .f32) r0_8 (ix2 k n) = (m ((c : Thread nD τ).loc main_arg8) : S1024x256.Idx → Elt F .f32) (ix2 k n) := by
  refine (congrFun (View.ld_unit_zero offsets_zero _ _) _).trans ?_
  rw [block_9, V_main_arg8]

/-- The private head's first bias, as loaded. -/
theorem private_bias (n : Fin 256) :
    View.ld (iblk m c 10 t : S1x256.Idx → Elt F .f32) r0_9 (ix2 (0 : Fin 1) n) = (m ((c : Thread nD τ).loc main_arg9) : S256.Idx → Elt F .f32) (ix1 n) := by
  refine (congrFun (View.ld_unit_zero offsets_zero _ _) _).trans ?_
  rw [block_10, entry_v5]
  exact shapeCast_a_1a_apply _ _ _ _

/-- The private head's second weights, as loaded. -/
theorem own_weights (k : Fin 256) (n : Fin 512) :
    View.ld (iblk m c 11 t : S256x512.Idx → Elt F .f32) r0_10 (ix2 k n) = (m ((c : Thread nD τ).loc main_arg10) : S256x512.Idx → Elt F .f32) (ix2 k n) := by
  refine (congrFun (View.ld_unit_zero offsets_zero _ _) _).trans ?_
  rw [block_11, V_main_arg10]

/-- The private head's second bias, as loaded. -/
theorem own_bias (n : Fin 512) :
    View.ld (iblk m c 12 t : S1x512.Idx → Elt F .f32) r0_7 (ix2 (0 : Fin 1) n) = (m ((c : Thread nD τ).loc main_arg11) : S512.Idx → Elt F .f32) (ix1 n) := by
  refine (congrFun (View.ld_unit_zero offsets_zero _ _) _).trans ?_
  rw [block_12, entry_v6]
  exact shapeCast_a_1a_apply _ _ _ _

end Cert.KernelIdeal.Inputs
-- ==== Proof.Network.lean ====
/-
  The network's scores of one row of inputs, as plain functions of the row and the weights: two hidden layers with a
  rectifier, the shared head, and the private head with a rectified layer of its own.
-/
module

public import Idealize.ShloMosaic.PureOps.Ideal

@[expose] public section

noncomputable section

namespace Cert.Network

/-- A product with a weight table and a bias. -/
def layer {K N : Nat} (h : Fin K → EReal) (w : Fin K → Fin N → EReal) (b : Fin N → EReal) (n : Fin N) : EReal :=
  ∑ k, h k * w k n + b n

/-- The rectifier. -/
def relu {N : Nat} (h : Fin N → EReal) (n : Fin N) : EReal := max (h n) 0

variable (s : Fin 256 → EReal) (t : Fin 64 → EReal) (ws : Fin 256 → Fin 1024 → EReal) (wt : Fin 64 → Fin 1024 → EReal)
  (b1 : Fin 1024 → EReal) (w2 : Fin 1024 → Fin 1024 → EReal) (b2 : Fin 1024 → EReal)

/-- The first layer before its rectifier, from a state row and an action row. -/
def first (n : Fin 1024) : EReal := ∑ k, s k * ws k n + ∑ k, t k * wt k n + b1 n

/-- The second hidden layer. -/
def hidden : Fin 1024 → EReal := relu (layer (relu (first s t ws wt b1)) w2 b2)

/-- The shared scores. -/
def shared (w : Fin 1024 → Fin 512 → EReal) (b : Fin 512 → EReal) : Fin 512 → EReal :=
  layer (hidden s t ws wt b1 w2 b2) w b

/-- The private scores. -/
def own (w : Fin 1024 → Fin 256 → EReal) (b : Fin 256 → EReal) (w' : Fin 256 → Fin 512 → EReal) (b' : Fin 512 → EReal) : Fin 512 → EReal :=
  layer (relu (layer (hidden s t ws wt b1 w2 b2) w b)) w' b'

/-- Shared scores from equal inputs. -/
theorem shared_congr {s s' : Fin 256 → EReal} {t t' : Fin 64 → EReal} {ws ws' : Fin 256 → Fin 1024 → EReal} {wt wt' : Fin 64 → Fin 1024 → EReal}
    {b1 b1' : Fin 1024 → EReal} {w2 w2' : Fin 1024 → Fin 1024 → EReal} {b2 b2' : Fin 1024 → EReal}
    {w w' : Fin 1024 → Fin 512 → EReal} {b b' : Fin 512 → EReal}
    (hs : ∀ k, s k = s' k) (ht : ∀ k, t k = t' k) (hws : ∀ k n, ws k n = ws' k n) (hwt : ∀ k n, wt k n = wt' k n) (hb1 : ∀ n, b1 n = b1' n)
    (hw2 : ∀ k n, w2 k n = w2' k n) (hb2 : ∀ n, b2 n = b2' n) (hw : ∀ k n, w k n = w' k n) (hb : ∀ n, b n = b' n) (j : Fin 512) :
    shared s t ws wt b1 w2 b2 w b j = shared s' t' ws' wt' b1' w2' b2' w' b' j := by
  obtain rfl : s = s' := funext hs
  obtain rfl : t = t' := funext ht
  obtain rfl : ws = ws' := funext fun k => funext (hws k)
  obtain rfl : wt = wt' := funext fun k => funext (hwt k)
  obtain rfl : b1 = b1' := funext hb1
  obtain rfl : w2 = w2' := funext fun k => funext (hw2 k)
  obtain rfl : b2 = b2' := funext hb2
  obtain rfl : w = w' := funext fun k => funext (hw k)
  obtain rfl : b = b' := funext hb
  rfl

/-- Private scores from equal inputs. -/
theorem own_congr {s s' : Fin 256 → EReal} {t t' : Fin 64 → EReal} {ws ws' : Fin 256 → Fin 1024 → EReal} {wt wt' : Fin 64 → Fin 1024 → EReal}
    {b1 b1' : Fin 1024 → EReal} {w2 w2' : Fin 1024 → Fin 1024 → EReal} {b2 b2' : Fin 1024 → EReal}
    {w w' : Fin 1024 → Fin 256 → EReal} {b b' : Fin 256 → EReal} {v v' : Fin 256 → Fin 512 → EReal} {d d' : Fin 512 → EReal}
    (hs : ∀ k, s k = s' k) (ht : ∀ k, t k = t' k) (hws : ∀ k n, ws k n = ws' k n) (hwt : ∀ k n, wt k n = wt' k n) (hb1 : ∀ n, b1 n = b1' n)
    (hw2 : ∀ k n, w2 k n = w2' k n) (hb2 : ∀ n, b2 n = b2' n) (hw : ∀ k n, w k n = w' k n) (hb : ∀ n, b n = b' n)
    (hv : ∀ k n, v k n = v' k n) (hd : ∀ n, d n = d' n) (j : Fin 512) :
    own s t ws wt b1 w2 b2 w b v d j = own s' t' ws' wt' b1' w2' b2' w' b' v' d' j := by
  obtain rfl : s = s' := funext hs
  obtain rfl : t = t' := funext ht
  obtain rfl : ws = ws' := funext fun k => funext (hws k)
  obtain rfl : wt = wt' := funext fun k => funext (hwt k)
  obtain rfl : b1 = b1' := funext hb1
  obtain rfl : w2 = w2' := funext fun k => funext (hw2 k)
  obtain rfl : b2 = b2' := funext hb2
  obtain rfl : w = w' := funext fun k => funext (hw k)
  obtain rfl : b = b' := funext hb
  obtain rfl : v = v' := funext fun k => funext (hv k)
  obtain rfl : d = d' := funext hd
  rfl

end Cert.Network
-- ==== Proof.BlockScores.lean ====
/-
  The scores one block of the kernel computes, read at an index: row by row the network's, from the block's rows and the
  weights it is handed. The two halves of a block compute the same function of their rows.
-/
module

public import proofs.«01_k».proof.Proof.Network
public import proofs.«01_k».proof.Proof.Gen.KernelIdeal.Frame
public import Idealize.ShloMosaic.Lib.ValueIdx
public import Idealize.ShloMosaic.Lib.MatmulPlain
public import Idealize.ShloMosaic.Lib.Pipeline.Value

@[expose] public section

set_option maxRecDepth 16384

noncomputable section

namespace Cert.KernelIdeal.BlockScores

open Cert.KernelIdeal Cert.KernelIdeal.Gen Cert.Network
open Idealize.ShloMosaic Idealize.ShloMosaic.ValueIdx Idealize.SL.Sem

/-- A product with a weight table from the zero accumulator, at an index. -/
theorem product_apply {M K N : ℕ} (x : FVec Ideal ⟨2, ![M, K]⟩ .f32) (w : FVec Ideal ⟨2, ![K, N]⟩ .f32) (r : Fin M) (n : Fin N) :
    matmul (DotDims.plain M K N) none x w (constant ⟨2, ![M, N]⟩ .f32 0x00000000#32) (ix2 r n) = ∑ k, x (ix2 r k) * w (ix2 k n) := by
  refine (Ideal.matmul_plain_apply none x w _ r n).trans ?_
  rw [constant_apply, Ideal.ofBits_zero_f32, zero_add]

/-- A bias row spread over the rows of a block, at an index. -/
theorem bias_apply {M N : ℕ} (b : FVec Ideal ⟨2, ![1, N]⟩ .f32) (hc : (⟨2, ![1, N]⟩ : Shape).ShapeCasts ⟨2, ![1, N]⟩)
    (h : (⟨2, ![1, N]⟩ : Shape).Broadcasts ⟨2, ![M, N]⟩) (r : Fin M) (n : Fin N) :
    broadcastTo ⟨2, ![M, N]⟩ (shapeCast ⟨2, ![1, N]⟩ b hc) h (ix2 r n) = b (ix2 (0 : Fin 1) n) := by
  rw [shapeCast_self]
  refine broadcastTo_apply b h (ix2 r n) (ix2 (0 : Fin 1) n) (fun d => ?_)
  match d with
  | ⟨0, _⟩ => exact (if_pos rfl).symm
  | ⟨1, _⟩ =>
    show n.val = if N = 1 then 0 else n.val
    split
    · omega
    · rfl

/-- The rectifier at an index. -/
theorem relu_apply {s : Shape} (x : FVec Ideal s .f32) (i : s.Idx) :
    maximumf x (broadcast s (Scalar.ofBits .f32 0x00000000#32)) i = max (x i) 0 := by
  rw [maximumf_apply, broadcast_apply]
  exact congrArg (max (x i)) Ideal.ofBits_zero_f32

variable (v0 : FVec Ideal S1024x256 .f32) (v1 : FVec Ideal S256x1024 .f32) (v4 : FVec Ideal S1024x64 .f32) (v5 : FVec Ideal S64x1024 .f32)
  (v9 : FVec Ideal S1x1024 .f32) (v15 : FVec Ideal S1024x1024 .f32) (v17 : FVec Ideal S1x1024 .f32)
  (v23 : FVec Ideal S1024x512 .f32) (v25 : FVec Ideal S1x512 .f32)
  (v29 : FVec Ideal S1024x256 .f32) (v31 : FVec Ideal S1x256 .f32) (v37 : FVec Ideal S256x512 .f32) (v39 : FVec Ideal S1x512 .f32)
  (r : Fin 1024)

/-- The second hidden layer of a block. -/
theorem hidden_apply (n : Fin 1024) :
    k0_pay2 (F := Ideal) v0 v1 v4 v5 v9 v15 v17 (ix2 r n)
      = hidden (fun k => v0 (ix2 r k)) (fun k => v4 (ix2 r k)) (fun k n => v1 (ix2 k n)) (fun k n => v5 (ix2 k n))
          (fun n => v9 (ix2 (0 : Fin 1) n)) (fun k n => v15 (ix2 k n)) (fun n => v17 (ix2 (0 : Fin 1) n)) n := by
  unfold k0_pay2
  rw [relu_apply, addf_apply, bias_apply]
  refine congrArg (fun e => max (e + v17 (ix2 (0 : Fin 1) n)) 0) ((product_apply _ v15 r n).trans ?_)
  refine Finset.sum_congr rfl fun k _ => congrArg (· * v15 (ix2 k n)) ?_
  rw [relu_apply, addf_apply, bias_apply, addf_apply, shapeCast_self, shapeCast_self]
  exact congrArg (fun e => max (e + v9 (ix2 (0 : Fin 1) k)) 0)
    (congrArg₂ (· + ·) (product_apply v0 v1 r k) (product_apply v4 v5 r k))

/-- The shared scores of a block. -/
theorem shared_apply (j : Fin 512) :
    k0_pay3 (F := Ideal) v0 v1 v4 v5 v9 v15 v17 v23 v25 (ix2 r j)
      = shared (fun k => v0 (ix2 r k)) (fun k => v4 (ix2 r k)) (fun k n => v1 (ix2 k n)) (fun k n => v5 (ix2 k n))
          (fun n => v9 (ix2 (0 : Fin 1) n)) (fun k n => v15 (ix2 k n)) (fun n => v17 (ix2 (0 : Fin 1) n))
          (fun k n => v23 (ix2 k n)) (fun n => v25 (ix2 (0 : Fin 1) n)) j := by
  unfold k0_pay3
  rw [addf_apply, bias_apply]
  refine congrArg (· + v25 (ix2 (0 : Fin 1) j)) ((product_apply _ v23 r j).trans ?_)
  exact Finset.sum_congr rfl fun k _ => congrArg (· * v23 (ix2 k j)) (hidden_apply v0 v1 v4 v5 v9 v15 v17 r k)

/-- The private scores of a block. -/
theorem own_apply (j : Fin 512) :
    k0_pay5 (F := Ideal) (k0_pay4 (F := Ideal) v0 v1 v4 v5 v9 v15 v17 v29) v31 v37 v39 (ix2 r j)
      = own (fun k => v0 (ix2 r k)) (fun k => v4 (ix2 r k)) (fun k n => v1 (ix2 k n)) (fun k n => v5 (ix2 k n))
          (fun n => v9 (ix2 (0 : Fin 1) n)) (fun k n => v15 (ix2 k n)) (fun n => v17 (ix2 (0 : Fin 1) n))
          (fun k n => v29 (ix2 k n)) (fun n => v31 (ix2 (0 : Fin 1) n)) (fun k n => v37 (ix2 k n)) (fun n => v39 (ix2 (0 : Fin 1) n)) j := by
  unfold k0_pay5 k0_pay4
  rw [addf_apply, bias_apply]
  refine congrArg (· + v39 (ix2 (0 : Fin 1) j)) ((product_apply _ v37 r j).trans ?_)
  refine Finset.sum_congr rfl fun k _ => congrArg (· * v37 (ix2 k j)) ?_
  rw [relu_apply, addf_apply, bias_apply]
  refine congrArg (fun e => max (e + v31 (ix2 (0 : Fin 1) k)) 0) ((product_apply _ v29 r k).trans ?_)
  exact Finset.sum_congr rfl fun l _ => congrArg (· * v29 (ix2 l k)) (hidden_apply v0 v1 v4 v5 v9 v15 v17 r l)

/-- The second half's hidden layer is the first half's function of its rows. -/
theorem hidden_second : k0_pay174 (F := Ideal) (k0_pay173 (F := Ideal) v0 v1 v4 v5 v9 v15) v17 = k0_pay2 (F := Ideal) v0 v1 v4 v5 v9 v15 v17 := by
  unfold k0_pay174 k0_pay173 k0_pay2
  rfl

/-- So are its shared scores. -/
theorem shared_second : k0_pay175 (F := Ideal) (k0_pay173 (F := Ideal) v0 v1 v4 v5 v9 v15) v17 v23 v25 = k0_pay3 (F := Ideal) v0 v1 v4 v5 v9 v15 v17 v23 v25 := by
  unfold k0_pay175 k0_pay3
  rw [hidden_second]

/-- And its private scores. -/
theorem own_second : k0_pay176 (F := Ideal) (k0_pay173 (F := Ideal) v0 v1 v4 v5 v9 v15) v17 v29 v31 v37 v39 = k0_pay5 (F := Ideal) (k0_pay4 (F := Ideal) v0 v1 v4 v5 v9 v15 v17 v29) v31 v37 v39 := by
  unfold k0_pay176 k0_pay5 k0_pay4
  rw [hidden_second]

end Cert.KernelIdeal.BlockScores
-- ==== Proof.RefScores.lean ====
/-
  The plain program's scores at an index: row by row the network's. Its first product runs over the state and action
  columns joined; the sum over the join is the sum over each.
-/
module

public import proofs.«01_k».proof.Proof.Network
public import proofs.«01_k».proof.Proof.Gen.ReferenceIdeal.Read
public import Idealize.ShloMosaic.Lib.ValueIdx
public import Idealize.ShloMosaic.Lib.Pipeline.Value
public import Idealize.ShloMosaic.PureOps.Ideal.Laws

@[expose] public section

set_option maxRecDepth 16384

noncomputable section

namespace Cert.ReferenceIdeal.Scores

open Cert.ReferenceIdeal Cert.ReferenceIdeal.Gen Cert.ReferenceIdeal.Read Cert.Network
open Idealize.ShloMosaic Idealize.ShloMosaic.ValueIdx

variable (x0 : FVec Ideal S16384x256 .f32) (x1 : FVec Ideal S16384x64 .f32) (x2 : FVec Ideal S320x1024 .f32) (x3 : FVec Ideal S1024 .f32)
  (x4 : FVec Ideal S1024x1024 .f32) (x5 : FVec Ideal S1024 .f32) (x6 : FVec Ideal S1024x512 .f32) (x7 : FVec Ideal S512 .f32)
  (x8 : FVec Ideal S1024x256 .f32) (x9 : FVec Ideal S256 .f32) (x10 : FVec Ideal S256x512 .f32) (x11 : FVec Ideal S512 .f32)
  (r : Fin 16384)

/-- The joined row, in its state columns. -/
theorem joined_state (k : Fin 256) : val_main_v0 (F := Ideal) x0 x1 (ix2 r (Fin.castAdd 64 k : Fin 320)) = x0 (ix2 r k) := by
  unfold val_main_v0
  refine concatenate_pair_apply_left 1 x0 x1 _ (ix2 r (Fin.castAdd 64 k : Fin 320)) rfl (ix2 r k) (fun b => ?_)
  match b with
  | ⟨0, _⟩ => rfl
  | ⟨1, _⟩ => rfl

/-- The joined row, in its action columns. -/
theorem joined_action (k : Fin 64) : val_main_v0 (F := Ideal) x0 x1 (ix2 r (Fin.natAdd 256 k : Fin 320)) = x1 (ix2 r k) := by
  unfold val_main_v0
  refine concatenate_pair_apply_right 1 x0 x1 _ (ix2 r (Fin.natAdd 256 k : Fin 320)) rfl rfl (ix2 r k) (fun b hb => ?_) (Nat.add_comm _ _)
  match b with
  | ⟨0, _⟩ => rfl
  | ⟨1, _⟩ => exact absurd rfl hb

/-- The first layer before its rectifier. -/
theorem first_apply (n : Fin 1024) :
    val_main_v4 (F := Ideal) x0 x1 x2 x3 (ix2 r n)
      = first (fun k => x0 (ix2 r k)) (fun k => x1 (ix2 r k)) (fun k n => x2 (ix2 (Fin.castAdd 64 k : Fin 320) n))
          (fun k n => x2 (ix2 (Fin.natAdd 256 k : Fin 320) n)) (fun n => x3 (ix1 n)) n := by
  rw [val_main_v4_apply, val_main_v3_apply, val_main_v2_apply, val_main_v1_apply]
  refine congrArg₂ (fun p q : EReal => p + q) ?_ (congrArg x3 (eq_ix1 _))
  refine (Fin.sum_univ_add (a := 256) (b := 64) (fun k : Fin 320 => (val_main_v0 (F := Ideal) x0 x1 (lidx_main_v1 (ix2 r n) k) : EReal) * x2 (ridx_main_v1 (ix2 r n) k))).trans ?_
  refine congrArg₂ (fun p q : EReal => p + q) (Finset.sum_congr rfl fun k _ => ?_) (Finset.sum_congr rfl fun k _ => ?_)
  · exact congrArg₂ (fun p q : EReal => p * q) ((congrArg _ (eq_ix2 _)).trans (joined_state x0 x1 r k)) (congrArg x2 (eq_ix2 _))
  · exact congrArg₂ (fun p q : EReal => p * q) ((congrArg _ (eq_ix2 _)).trans (joined_action x0 x1 r k)) (congrArg x2 (eq_ix2 _))

/-- The first layer. -/
theorem rectified_apply (n : Fin 1024) :
    val_main_v5 (F := Ideal) x0 x1 x2 x3 (ix2 r n)
      = relu (first (fun k => x0 (ix2 r k)) (fun k => x1 (ix2 r k)) (fun k n => x2 (ix2 (Fin.castAdd 64 k : Fin 320) n))
          (fun k n => x2 (ix2 (Fin.natAdd 256 k : Fin 320) n)) (fun n => x3 (ix1 n))) n := by
  rw [val_main_v5_apply, val_main_call0_v0_apply, val_main_call0_cst_apply]
  exact congrArg₂ (fun p q : EReal => max p q) (first_apply x0 x1 x2 x3 r n) Ideal.ofBits_zero_f32

/-- The second hidden layer. -/
theorem hidden_apply (n : Fin 1024) :
    val_main_v10 (F := Ideal) x0 x1 x2 x3 x4 x5 (ix2 r n)
      = hidden (fun k => x0 (ix2 r k)) (fun k => x1 (ix2 r k)) (fun k n => x2 (ix2 (Fin.castAdd 64 k : Fin 320) n))
          (fun k n => x2 (ix2 (Fin.natAdd 256 k : Fin 320) n)) (fun n => x3 (ix1 n)) (fun k n => x4 (ix2 k n)) (fun n => x5 (ix1 n)) n := by
  rw [val_main_v10_apply, val_main_v9_apply, val_main_v8_apply, val_main_v7_apply, val_main_v6_apply, val_main_call1_v0_apply, val_main_call1_cst_apply]
  refine congrArg₂ (fun p q : EReal => max p q) (congrArg₂ (fun p q : EReal => p + q) ?_ (congrArg x5 (eq_ix1 _))) Ideal.ofBits_zero_f32
  refine Finset.sum_congr rfl fun k _ => ?_
  exact congrArg₂ (fun p q : EReal => p * q) ((congrArg _ (eq_ix2 _)).trans (rectified_apply x0 x1 x2 x3 r k)) (congrArg x4 (eq_ix2 _))

/-- The shared scores. -/
theorem shared_apply (j : Fin 512) :
    val_main_v14 (F := Ideal) x0 x1 x2 x3 x4 x5 x6 x7 (ix2 r j)
      = shared (fun k => x0 (ix2 r k)) (fun k => x1 (ix2 r k)) (fun k n => x2 (ix2 (Fin.castAdd 64 k : Fin 320) n))
          (fun k n => x2 (ix2 (Fin.natAdd 256 k : Fin 320) n)) (fun n => x3 (ix1 n)) (fun k n => x4 (ix2 k n)) (fun n => x5 (ix1 n))
          (fun k n => x6 (ix2 k n)) (fun n => x7 (ix1 n)) j := by
  rw [val_main_v14_apply, val_main_v13_apply, val_main_v12_apply, val_main_v11_apply]
  refine congrArg₂ (fun p q : EReal => p + q) ?_ (congrArg x7 (eq_ix1 _))
  refine Finset.sum_congr rfl fun k _ => ?_
  exact congrArg₂ (fun p q : EReal => p * q) ((congrArg _ (eq_ix2 _)).trans (hidden_apply x0 x1 x2 x3 x4 x5 r k)) (congrArg x6 (eq_ix2 _))

/-- The private head's hidden layer. -/
theorem private_apply (n : Fin 256) :
    val_main_v19 (F := Ideal) x0 x1 x2 x3 x4 x5 x8 x9 (ix2 r n)
      = relu (layer (hidden (fun k => x0 (ix2 r k)) (fun k => x1 (ix2 r k)) (fun k n => x2 (ix2 (Fin.castAdd 64 k : Fin 320) n))
          (fun k n => x2 (ix2 (Fin.natAdd 256 k : Fin 320) n)) (fun n => x3 (ix1 n)) (fun k n => x4 (ix2 k n)) (fun n => x5 (ix1 n)))
          (fun k n => x8 (ix2 k n)) (fun n => x9 (ix1 n))) n := by
  rw [val_main_v19_apply, val_main_v18_apply, val_main_v17_apply, val_main_v16_apply, val_main_v15_apply, val_main_call2_v0_apply, val_main_call2_cst_apply]
  refine congrArg₂ (fun p q : EReal => max p q) (congrArg₂ (fun p q : EReal => p + q) ?_ (congrArg x9 (eq_ix1 _))) Ideal.ofBits_zero_f32
  refine Finset.sum_congr rfl fun l _ => ?_
  exact congrArg₂ (fun p q : EReal => p * q) ((congrArg _ (eq_ix2 _)).trans (hidden_apply x0 x1 x2 x3 x4 x5 r l)) (congrArg x8 (eq_ix2 _))

/-- The private scores. -/
theorem own_apply (j : Fin 512) :
    val_main_v23 (F := Ideal) x0 x1 x2 x3 x4 x5 x8 x9 x10 x11 (ix2 r j)
      = own (fun k => x0 (ix2 r k)) (fun k => x1 (ix2 r k)) (fun k n => x2 (ix2 (Fin.castAdd 64 k : Fin 320) n))
          (fun k n => x2 (ix2 (Fin.natAdd 256 k : Fin 320) n)) (fun n => x3 (ix1 n)) (fun k n => x4 (ix2 k n)) (fun n => x5 (ix1 n))
          (fun k n => x8 (ix2 k n)) (fun n => x9 (ix1 n)) (fun k n => x10 (ix2 k n)) (fun n => x11 (ix1 n)) j := by
  rw [val_main_v23_apply, val_main_v22_apply, val_main_v21_apply, val_main_v20_apply]
  refine congrArg₂ (fun p q : EReal => p + q) ?_ (congrArg x11 (eq_ix1 _))
  refine Finset.sum_congr rfl fun k _ => ?_
  exact congrArg₂ (fun p q : EReal => p * q) ((congrArg _ (eq_ix2 _)).trans (private_apply x0 x1 x2 x3 x4 x5 x8 x9 r k)) (congrArg x10 (eq_ix2 _))

end Cert.ReferenceIdeal.Scores
-- ==== Proof.PointScores.lean ====
/-
  A grid point's scores are the plain program's, at the rows that the point holds.
-/
module

public import proofs.«01_k».proof.Proof.Inputs
public import proofs.«01_k».proof.Proof.BlockScores
public import proofs.«01_k».proof.Proof.RefScores

@[expose] public section

set_option maxRecDepth 16384

noncomputable section

namespace Cert.KernelIdeal.PointScores

open Cert.KernelIdeal Cert.KernelIdeal.Gen Cert.KernelIdeal.Inputs Cert.Network
open Idealize.ShloMosaic Idealize.ShloMosaic.TcCoe Idealize.ShloMosaic.ValueIdx Idealize.SL.Sem

variable (m : (ℓ : Loc nD τ sig) → Buf (Elt Ideal) ℓ) (c : Dev nD) (t : Fin cfg0.N) (r : Fin 1024) (j : Fin 512)

/-- The plain program's shared scores of the launched arguments. -/
abbrev sharedTable : FVec Ideal S16384x512 .f32 :=
  Cert.ReferenceIdeal.Read.val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The plain program's private scores of the launched arguments. -/
abbrev ownTable : FVec Ideal S16384x512 .f32 :=
  Cert.ReferenceIdeal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11))

/-- The first half's shared scores. -/
theorem shared_low : k0_pay353 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j) = sharedTable m c (ix2 (row t (low r)) j) :=
  (BlockScores.shared_apply _ _ _ _ _ _ _ _ _ r j).trans <|
    (shared_congr (state_low m c t r) (action_low m c t r) (state_weights m c t) (action_weights m c t) (first_bias m c t) (second_weights m c t) (second_bias m c t) (shared_weights m c t) (shared_bias m c t) j).trans
      (Cert.ReferenceIdeal.Scores.shared_apply _ _ _ _ _ _ _ _ (row t (low r)) j).symm

/-- The second half's shared scores. -/
theorem shared_high : k0_pay175 (F := Ideal) (k0_pay400 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 6 t) r0_4) (View.ld (iblk m c 7 t) r0_6) (View.ld (iblk m c 8 t) r0_7) (ix2 r j) = sharedTable m c (ix2 (row t (high r)) j) :=
  (congrFun (BlockScores.shared_second _ _ _ _ _ _ _ _ _) _).trans <| (BlockScores.shared_apply _ _ _ _ _ _ _ _ _ r j).trans <|
    (shared_congr (state_high m c t r) (action_high m c t r) (state_weights m c t) (action_weights m c t) (first_bias m c t) (second_weights m c t) (second_bias m c t) (shared_weights m c t) (shared_bias m c t) j).trans
      (Cert.ReferenceIdeal.Scores.shared_apply _ _ _ _ _ _ _ _ (row t (high r)) j).symm

/-- The first half's private scores. -/
theorem own_low : k0_pay354 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j) = ownTable m c (ix2 (row t (low r)) j) :=
  (BlockScores.own_apply _ _ _ _ _ _ _ _ _ _ _ r j).trans <|
    (own_congr (state_low m c t r) (action_low m c t r) (state_weights m c t) (action_weights m c t) (first_bias m c t) (second_weights m c t) (second_bias m c t) (private_weights m c t) (private_bias m c t) (own_weights m c t) (own_bias m c t) j).trans
      (Cert.ReferenceIdeal.Scores.own_apply _ _ _ _ _ _ _ _ _ _ (row t (low r)) j).symm

/-- The second half's private scores. -/
theorem own_high : k0_pay401 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j) = ownTable m c (ix2 (row t (high r)) j) :=
  (congrFun (BlockScores.own_second _ _ _ _ _ _ _ _ _ _ _) _).trans <| (BlockScores.own_apply _ _ _ _ _ _ _ _ _ _ _ r j).trans <|
    (own_congr (state_high m c t r) (action_high m c t r) (state_weights m c t) (action_weights m c t) (first_bias m c t) (second_weights m c t) (second_bias m c t) (private_weights m c t) (private_bias m c t) (own_weights m c t) (own_bias m c t) j).trans
      (Cert.ReferenceIdeal.Scores.own_apply _ _ _ _ _ _ _ _ _ _ (row t (high r)) j).symm

end Cert.KernelIdeal.PointScores
-- ==== Proof.Search.lean ====
/-
  What one block of the kernel does with its scores, stated once for the four places that do it (two
  halves of the rows, two heads): twenty halvings of the interval `[lo, hi]` of a row's magnitudes, and
  the row's scores kept where their magnitude reaches the final `lo`.
-/
module

public import proofs.«01_k».proof.Proof.Gen.KernelIdeal.Frame

@[expose] public section

set_option maxRecDepth 16384

noncomputable section

namespace Cert.KernelIdeal.Search

open Cert.KernelIdeal Cert.KernelIdeal.Gen
open Idealize.ShloMosaic Idealize.SL.Sem

variable {F : FTy → Type} [FloatOps F]

/-- The largest magnitude of each row. -/
def rowMax (a : FVec F S1024x512 .f32) : FVec F S1024x1 .f32 :=
  shapeCast S1024x1
    (multiReduction .maximumf [1] S1024 a 0xFF800000#32 reduces_S1024x512_S1024 (.inl rfl) rfl)
    shapeCasts_S1024_S1024x1

/-- The middle of the two bounds of each row. -/
def middle (l h : FVec F S1024x1 .f32) : FVec F S1024x1 .f32 :=
  mulf (addf l h) (broadcast S1024x1 (Scalar.ofBits .f32 0x3F000000#32))

/-- Where a row's magnitudes reach the row's bound. -/
def reach (a : FVec F S1024x512 .f32) (b : FVec F S1024x1 .f32) : IVec S1024x512 1 :=
  cmpf .oge a (broadcastTo S1024x512 b broadcasts_S1024x1_S1024x512)

/-- The sum along each row of a table of counts. -/
def tally (w : IVec S1024x512 32) : IVec S1024 32 :=
  multiReductionI .add [1] S1024 w 0#32 reduces_S1024x512_S1024 rfl

/-- Whether at least 32 of a row's magnitudes reach the row's bound. -/
def enough (a : FVec F S1024x512 .f32) (b : FVec F S1024x1 .f32) : IVec S1024x1 1 :=
  cmpi .sge
    (shapeCast S1024x1
      (tally (extui 32 (xori (reach a b)
        (broadcastTo S1024x512 (broadcast S1024x512 0#1) broadcasts_S1024x512_S1024x512)) natLt_1_32))
      shapeCasts_S1024_S1024x1)
    (broadcast S1024x1 32#32)

/-- The two bounds after `n` halvings: the lower starts at zero, the upper at the row's largest. -/
def bounds (a : FVec F S1024x512 .f32) : Nat → FVec F S1024x1 .f32 × FVec F S1024x1 .f32
  | 0 => (broadcast S1024x1 (Scalar.ofBits .f32 0x00000000#32), rowMax a)
  | n + 1 =>
    (select (enough a (middle (bounds a n).1 (bounds a n).2)) (middle (bounds a n).1 (bounds a n).2) (bounds a n).1,
     select (enough a (middle (bounds a n).1 (bounds a n).2)) (bounds a n).2 (middle (bounds a n).1 (bounds a n).2))

/-- The lower bound after `n` halvings. -/
def lower (a : FVec F S1024x512 .f32) (n : Nat) : FVec F S1024x1 .f32 := (bounds a n).1

/-- The upper bound after `n` halvings. -/
def upper (a : FVec F S1024x512 .f32) (n : Nat) : FVec F S1024x1 .f32 := (bounds a n).2

/-- The scores kept where their magnitude reaches the lower bound after twenty halvings, zero elsewhere. -/
def kept (x : FVec F S1024x512 .f32) : FVec F S1024x512 .f32 :=
  select (reach (absf x) (lower (absf x) 20)) x
    (broadcast S1024x512 (Scalar.ofBits .f32 0x00000000#32))

/-! ## The printed operations read as the functions above -/

section Fold

variable (a x : FVec F S1024x512 .f32) (l h : FVec F S1024x1 .f32) (n : Nat)

theorem rowMax_eq : shapeCast S1024x1
    (multiReduction .maximumf [1] S1024 a 0xFF800000#32 reduces_S1024x512_S1024 (.inl rfl) rfl)
    shapeCasts_S1024_S1024x1 = rowMax a := by rfl

theorem middle_eq : mulf (addf l h) (broadcast S1024x1 (Scalar.ofBits .f32 0x3F000000#32)) = middle l h := by rfl

theorem reach_eq : cmpf .oge a (broadcastTo S1024x512 l broadcasts_S1024x1_S1024x512) = reach a l := by rfl

theorem tally_eq (w : IVec S1024x512 32) :
    multiReductionI .add [1] S1024 w 0#32 reduces_S1024x512_S1024 rfl = tally w := by rfl

theorem enough_eq : cmpi .sge
    (shapeCast S1024x1
      (tally (extui 32 (xori (reach a l)
        (broadcastTo S1024x512 (broadcast S1024x512 0#1) broadcasts_S1024x512_S1024x512)) natLt_1_32))
      shapeCasts_S1024_S1024x1)
    (broadcast S1024x1 32#32) = enough a l := by rfl

/-- The first halving, from zero and the row's largest: the lower bound. -/
theorem lower_one : select (enough a (middle (broadcast S1024x1 (Scalar.ofBits .f32 0x00000000#32)) (rowMax a)))
    (middle (broadcast S1024x1 (Scalar.ofBits .f32 0x00000000#32)) (rowMax a))
    (broadcast S1024x1 (Scalar.ofBits .f32 0x00000000#32)) = lower a 1 := by
  simp only [lower, bounds]

/-- The first halving: the upper bound. -/
theorem upper_one : select (enough a (middle (broadcast S1024x1 (Scalar.ofBits .f32 0x00000000#32)) (rowMax a)))
    (rowMax a) (middle (broadcast S1024x1 (Scalar.ofBits .f32 0x00000000#32)) (rowMax a)) = upper a 1 := by
  simp only [upper, bounds]

/-- One more halving: the lower bound. -/
theorem lower_step : select (enough a (middle (lower a n) (upper a n))) (middle (lower a n) (upper a n)) (lower a n)
    = lower a (n + 1) := by
  simp only [lower, upper, bounds]

/-- One more halving: the upper bound. -/
theorem upper_step : select (enough a (middle (lower a n) (upper a n))) (upper a n) (middle (lower a n) (upper a n))
    = upper a (n + 1) := by
  simp only [lower, upper, bounds]

end Fold

section Inputs

variable (x0 : Vec F S2048x256 .f32) (x1 : Vec F S2048x64 .f32) (x2 : Vec F S256x1024 .f32) (x3 : Vec F S64x1024 .f32) (x4 : Vec F S1x1024 .f32) (x5 : Vec F S1024x1024 .f32) (x6 : Vec F S1x1024 .f32) (x7 : Vec F S1024x512 .f32) (x8 : Vec F S1x512 .f32) (x9 : Vec F S1024x256 .f32) (x10 : Vec F S1x256 .f32) (x11 : Vec F S256x512 .f32) (x12 : Vec F S1x512 .f32)

/-- The block's store of the first 1024 rows' shared scores: those scores, `kept`. -/
theorem shared_first : k0_pay86 (k0_pay353 x0 x1 x2 x3 x4 x5 x6 x7 x8 x9 x10 x11 x12) (k0_pay355 x0 x1 x2 x3 x4 x5 x6 x7 x8 x9 x10 x11 x12) (k0_pay82 (k0_pay355 x0 x1 x2 x3 x4 x5 x6 x7 x8 x9 x10 x11 x12) (k0_pay371 x0 x1 x2 x3 x4 x5 x6 x7 x8 x9 x10 x11 x12) (k0_pay372 x0 x1 x2 x3 x4 x5 x6 x7 x8 x9 x10 x11 x12) (k0_pay373 x0 x1 x2 x3 x4 x5 x6 x7 x8 x9 x10 x11 x12) (k0_pay374 x0 x1 x2 x3 x4 x5 x6 x7 x8 x9 x10 x11 x12) (k0_pay375 x0 x1 x2 x3 x4 x5 x6 x7 x8 x9 x10 x11 x12)) (k0_pay83 (k0_pay355 x0 x1 x2 x3 x4 x5 x6 x7 x8 x9 x10 x11 x12) (k0_pay371 x0 x1 x2 x3 x4 x5 x6 x7 x8 x9 x10 x11 x12) (k0_pay372 x0 x1 x2 x3 x4 x5 x6 x7 x8 x9 x10 x11 x12) (k0_pay373 x0 x1 x2 x3 x4 x5 x6 x7 x8 x9 x10 x11 x12) (k0_pay374 x0 x1 x2 x3 x4 x5 x6 x7 x8 x9 x10 x11 x12) (k0_pay375 x0 x1 x2 x3 x4 x5 x6 x7 x8 x9 x10 x11 x12)) (k0_pay84 (k0_pay355 x0 x1 x2 x3 x4 x5 x6 x7 x8 x9 x10 x11 x12) (k0_pay371 x0 x1 x2 x3 x4 x5 x6 x7 x8 x9 x10 x11 x12) (k0_pay372 x0 x1 x2 x3 x4 x5 x6 x7 x8 x9 x10 x11 x12) (k0_pay373 x0 x1 x2 x3 x4 x5 x6 x7 x8 x9 x10 x11 x12) (k0_pay374 x0 x1 x2 x3 x4 x5 x6 x7 x8 x9 x10 x11 x12) (k0_pay375 x0 x1 x2 x3 x4 x5 x6 x7 x8 x9 x10 x11 x12)) (k0_pay85 (k0_pay355 x0 x1 x2 x3 x4 x5 x6 x7 x8 x9 x10 x11 x12) (k0_pay371 x0 x1 x2 x3 x4 x5 x6 x7 x8 x9 x10 x11 x12) (k0_pay372 x0 x1 x2 x3 x4 x5 x6 x7 x8 x9 x10 x11 x12) (k0_pay373 x0 x1 x2 x3 x4 x5 x6 x7 x8 x9 x10 x11 x12) (k0_pay374 x0 x1 x2 x3 x4 x5 x6 x7 x8 x9 x10 x11 x12) (k0_pay375 x0 x1 x2 x3 x4 x5 x6 x7 x8 x9 x10 x11 x12))
    = kept (k0_pay353 x0 x1 x2 x3 x4 x5 x6 x7 x8 x9 x10 x11 x12) := by
  simp only [k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35,
    k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55,
    k0_pay56, k0_pay57, k0_pay58, k0_pay59, k0_pay60, k0_pay61, k0_pay62, k0_pay63, k0_pay64, k0_pay65,
    k0_pay66, k0_pay67, k0_pay68, k0_pay69, k0_pay70, k0_pay71, k0_pay72, k0_pay73, k0_pay74, k0_pay75,
    k0_pay76, k0_pay77, k0_pay78, k0_pay79, k0_pay80, k0_pay81, k0_pay82, k0_pay83, k0_pay84, k0_pay85,
    k0_pay86, k0_pay355, k0_pay356, k0_pay357, k0_pay358, k0_pay359, k0_pay360, k0_pay361, k0_pay362,
    k0_pay363, k0_pay364, k0_pay365, k0_pay366, k0_pay367, k0_pay368, k0_pay369, k0_pay370, k0_pay371,
    k0_pay372, k0_pay373, k0_pay374, k0_pay375,
    ↓rowMax_eq, ↓tally_eq, middle_eq, reach_eq, enough_eq, lower_one, upper_one, lower_step, upper_step, Nat.reduceAdd, kept]

/-- The block's store of the first 1024 rows' private scores: those scores, `kept`. -/
theorem private_first : k0_pay172 (k0_pay354 x0 x1 x2 x3 x4 x5 x6 x7 x8 x9 x10 x11 x12) (k0_pay376 x0 x1 x2 x3 x4 x5 x6 x7 x8 x9 x10 x11 x12) (k0_pay170 (k0_pay376 x0 x1 x2 x3 x4 x5 x6 x7 x8 x9 x10 x11 x12) (k0_pay395 x0 x1 x2 x3 x4 x5 x6 x7 x8 x9 x10 x11 x12) (k0_pay396 x0 x1 x2 x3 x4 x5 x6 x7 x8 x9 x10 x11 x12) (k0_pay397 x0 x1 x2 x3 x4 x5 x6 x7 x8 x9 x10 x11 x12) (k0_pay398 x0 x1 x2 x3 x4 x5 x6 x7 x8 x9 x10 x11 x12) (k0_pay399 x0 x1 x2 x3 x4 x5 x6 x7 x8 x9 x10 x11 x12)) (k0_pay171 (k0_pay376 x0 x1 x2 x3 x4 x5 x6 x7 x8 x9 x10 x11 x12) (k0_pay395 x0 x1 x2 x3 x4 x5 x6 x7 x8 x9 x10 x11 x12) (k0_pay396 x0 x1 x2 x3 x4 x5 x6 x7 x8 x9 x10 x11 x12) (k0_pay397 x0 x1 x2 x3 x4 x5 x6 x7 x8 x9 x10 x11 x12) (k0_pay398 x0 x1 x2 x3 x4 x5 x6 x7 x8 x9 x10 x11 x12) (k0_pay399 x0 x1 x2 x3 x4 x5 x6 x7 x8 x9 x10 x11 x12))
    = kept (k0_pay354 x0 x1 x2 x3 x4 x5 x6 x7 x8 x9 x10 x11 x12) := by
  simp only [k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105,
    k0_pay106, k0_pay107, k0_pay108, k0_pay109, k0_pay110, k0_pay111, k0_pay112, k0_pay113, k0_pay114,
    k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132,
    k0_pay133, k0_pay134, k0_pay135, k0_pay136, k0_pay137, k0_pay138, k0_pay139, k0_pay140, k0_pay141,
    k0_pay142, k0_pay143, k0_pay144, k0_pay145, k0_pay146, k0_pay147, k0_pay148, k0_pay149, k0_pay150,
    k0_pay151, k0_pay152, k0_pay153, k0_pay154, k0_pay155, k0_pay156, k0_pay157, k0_pay158, k0_pay159,
    k0_pay160, k0_pay161, k0_pay162, k0_pay163, k0_pay164, k0_pay165, k0_pay166, k0_pay167, k0_pay168,
    k0_pay169, k0_pay170, k0_pay171, k0_pay172, k0_pay376, k0_pay377, k0_pay378, k0_pay379, k0_pay380,
    k0_pay381, k0_pay382, k0_pay383, k0_pay384, k0_pay385, k0_pay386, k0_pay387, k0_pay388, k0_pay389,
    k0_pay390, k0_pay391, k0_pay392, k0_pay393, k0_pay394, k0_pay395, k0_pay396, k0_pay397, k0_pay398,
    k0_pay399,
    ↓rowMax_eq, ↓tally_eq, middle_eq, reach_eq, enough_eq, lower_one, upper_one, lower_step, upper_step, Nat.reduceAdd, kept]

/-- The block's store of the last 1024 rows' shared scores: those scores, `kept`. -/
theorem shared_second : k0_pay264 (k0_pay175 (k0_pay400 x0 x1 x2 x3 x4 x5 x6 x7 x8 x9 x10 x11 x12) (View.ld x6 r0_4) (View.ld x7 r0_6) (View.ld x8 r0_7)) (k0_pay402 x0 x1 x2 x3 x4 x5 x6 x7 x8 x9 x10 x11 x12) (k0_pay260 (k0_pay402 x0 x1 x2 x3 x4 x5 x6 x7 x8 x9 x10 x11 x12) (k0_pay423 x0 x1 x2 x3 x4 x5 x6 x7 x8 x9 x10 x11 x12) (k0_pay424 x0 x1 x2 x3 x4 x5 x6 x7 x8 x9 x10 x11 x12) (k0_pay425 x0 x1 x2 x3 x4 x5 x6 x7 x8 x9 x10 x11 x12) (k0_pay426 x0 x1 x2 x3 x4 x5 x6 x7 x8 x9 x10 x11 x12)) (k0_pay261 (k0_pay402 x0 x1 x2 x3 x4 x5 x6 x7 x8 x9 x10 x11 x12) (k0_pay423 x0 x1 x2 x3 x4 x5 x6 x7 x8 x9 x10 x11 x12) (k0_pay424 x0 x1 x2 x3 x4 x5 x6 x7 x8 x9 x10 x11 x12) (k0_pay425 x0 x1 x2 x3 x4 x5 x6 x7 x8 x9 x10 x11 x12) (k0_pay426 x0 x1 x2 x3 x4 x5 x6 x7 x8 x9 x10 x11 x12)) (k0_pay262 (k0_pay402 x0 x1 x2 x3 x4 x5 x6 x7 x8 x9 x10 x11 x12) (k0_pay423 x0 x1 x2 x3 x4 x5 x6 x7 x8 x9 x10 x11 x12) (k0_pay424 x0 x1 x2 x3 x4 x5 x6 x7 x8 x9 x10 x11 x12) (k0_pay425 x0 x1 x2 x3 x4 x5 x6 x7 x8 x9 x10 x11 x12) (k0_pay426 x0 x1 x2 x3 x4 x5 x6 x7 x8 x9 x10 x11 x12)) k0_pay263
    = kept (k0_pay175 (k0_pay400 x0 x1 x2 x3 x4 x5 x6 x7 x8 x9 x10 x11 x12) (View.ld x6 r0_4) (View.ld x7 r0_6) (View.ld x8 r0_7)) := by
  simp only [k0_pay177, k0_pay178, k0_pay179, k0_pay180, k0_pay181, k0_pay182, k0_pay183, k0_pay184, k0_pay185,
    k0_pay186, k0_pay187, k0_pay188, k0_pay189, k0_pay190, k0_pay191, k0_pay192, k0_pay193, k0_pay194,
    k0_pay195, k0_pay196, k0_pay197, k0_pay198, k0_pay199, k0_pay200, k0_pay201, k0_pay202, k0_pay203,
    k0_pay204, k0_pay205, k0_pay206, k0_pay207, k0_pay208, k0_pay209, k0_pay210, k0_pay211, k0_pay212,
    k0_pay213, k0_pay214, k0_pay215, k0_pay216, k0_pay217, k0_pay218, k0_pay219, k0_pay220, k0_pay221,
    k0_pay222, k0_pay223, k0_pay224, k0_pay225, k0_pay226, k0_pay227, k0_pay228, k0_pay229, k0_pay230,
    k0_pay231, k0_pay232, k0_pay233, k0_pay234, k0_pay235, k0_pay236, k0_pay237, k0_pay238, k0_pay239,
    k0_pay240, k0_pay241, k0_pay242, k0_pay243, k0_pay244, k0_pay245, k0_pay246, k0_pay247, k0_pay248,
    k0_pay249, k0_pay250, k0_pay251, k0_pay252, k0_pay253, k0_pay254, k0_pay255, k0_pay256, k0_pay257,
    k0_pay258, k0_pay259, k0_pay260, k0_pay261, k0_pay262, k0_pay263, k0_pay264, k0_pay402, k0_pay403,
    k0_pay404, k0_pay405, k0_pay406, k0_pay407, k0_pay408, k0_pay409, k0_pay410, k0_pay411, k0_pay412,
    k0_pay413, k0_pay414, k0_pay415, k0_pay416, k0_pay417, k0_pay418, k0_pay419, k0_pay420, k0_pay421,
    k0_pay422, k0_pay423, k0_pay424, k0_pay425, k0_pay426,
    ↓rowMax_eq, ↓tally_eq, middle_eq, reach_eq, enough_eq, lower_one, upper_one, lower_step, upper_step, Nat.reduceAdd, kept]

/-- The block's store of the last 1024 rows' private scores: those scores, `kept`. -/
theorem private_second : k0_pay1 (k0_pay401 x0 x1 x2 x3 x4 x5 x6 x7 x8 x9 x10 x11 x12) (k0_pay427 x0 x1 x2 x3 x4 x5 x6 x7 x8 x9 x10 x11 x12) (k0_pay350 (k0_pay427 x0 x1 x2 x3 x4 x5 x6 x7 x8 x9 x10 x11 x12) (k0_pay448 x0 x1 x2 x3 x4 x5 x6 x7 x8 x9 x10 x11 x12) (k0_pay449 x0 x1 x2 x3 x4 x5 x6 x7 x8 x9 x10 x11 x12) (k0_pay450 x0 x1 x2 x3 x4 x5 x6 x7 x8 x9 x10 x11 x12) (k0_pay451 x0 x1 x2 x3 x4 x5 x6 x7 x8 x9 x10 x11 x12)) (k0_pay351 (k0_pay427 x0 x1 x2 x3 x4 x5 x6 x7 x8 x9 x10 x11 x12) (k0_pay448 x0 x1 x2 x3 x4 x5 x6 x7 x8 x9 x10 x11 x12) (k0_pay449 x0 x1 x2 x3 x4 x5 x6 x7 x8 x9 x10 x11 x12) (k0_pay450 x0 x1 x2 x3 x4 x5 x6 x7 x8 x9 x10 x11 x12) (k0_pay451 x0 x1 x2 x3 x4 x5 x6 x7 x8 x9 x10 x11 x12)) (k0_pay352 (k0_pay427 x0 x1 x2 x3 x4 x5 x6 x7 x8 x9 x10 x11 x12) (k0_pay448 x0 x1 x2 x3 x4 x5 x6 x7 x8 x9 x10 x11 x12) (k0_pay449 x0 x1 x2 x3 x4 x5 x6 x7 x8 x9 x10 x11 x12) (k0_pay450 x0 x1 x2 x3 x4 x5 x6 x7 x8 x9 x10 x11 x12) (k0_pay451 x0 x1 x2 x3 x4 x5 x6 x7 x8 x9 x10 x11 x12))
    = kept (k0_pay401 x0 x1 x2 x3 x4 x5 x6 x7 x8 x9 x10 x11 x12) := by
  simp only [k0_pay1, k0_pay265, k0_pay266, k0_pay267, k0_pay268, k0_pay269, k0_pay270, k0_pay271, k0_pay272,
    k0_pay273, k0_pay274, k0_pay275, k0_pay276, k0_pay277, k0_pay278, k0_pay279, k0_pay280, k0_pay281,
    k0_pay282, k0_pay283, k0_pay284, k0_pay285, k0_pay286, k0_pay287, k0_pay288, k0_pay289, k0_pay290,
    k0_pay291, k0_pay292, k0_pay293, k0_pay294, k0_pay295, k0_pay296, k0_pay297, k0_pay298, k0_pay299,
    k0_pay300, k0_pay301, k0_pay302, k0_pay303, k0_pay304, k0_pay305, k0_pay306, k0_pay307, k0_pay308,
    k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326,
    k0_pay327, k0_pay328, k0_pay329, k0_pay330, k0_pay331, k0_pay332, k0_pay333, k0_pay334, k0_pay335,
    k0_pay336, k0_pay337, k0_pay338, k0_pay339, k0_pay340, k0_pay341, k0_pay342, k0_pay343, k0_pay344,
    k0_pay345, k0_pay346, k0_pay347, k0_pay348, k0_pay349, k0_pay350, k0_pay351, k0_pay352, k0_pay427,
    k0_pay428, k0_pay429, k0_pay430, k0_pay431, k0_pay432, k0_pay433, k0_pay434, k0_pay435, k0_pay436,
    k0_pay437, k0_pay438, k0_pay439, k0_pay440, k0_pay441, k0_pay442, k0_pay443, k0_pay444, k0_pay445,
    k0_pay446, k0_pay447, k0_pay448, k0_pay449, k0_pay450, k0_pay451,
    ↓rowMax_eq, ↓tally_eq, middle_eq, reach_eq, enough_eq, lower_one, upper_one, lower_step, upper_step, Nat.reduceAdd, kept]

end Inputs

end Cert.KernelIdeal.Search
-- ==== Proof.RowMath.lean ====
/-
  The mathematics of one row, free of any program: 512 magnitudes, an order `π` of them from the largest down,
  twenty halvings of the interval from zero to the largest, and a 32nd largest that stands clear of the 33rd.
-/
module

public import Mathlib.Data.EReal.Operations
public import Mathlib.Data.Fintype.Card
public import Mathlib.Data.Fintype.EquivFin
public import Mathlib.Tactic.Linarith
public import Mathlib.Tactic.FieldSimp
public import Mathlib.Tactic.Ring
public import Mathlib.Tactic.NormNum

@[expose] public section

namespace Cert.RowMath

/-- `π` lists the positions of `a` from the largest entry down. -/
structure Order (a : Fin 512 → EReal) (π : Fin 512 → Fin 512) : Prop where
  inj : Function.Injective π
  down : ∀ i j, i ≤ j → a (π j) ≤ a (π i)

variable {a : Fin 512 → EReal} {π : Fin 512 → Fin 512}

/-- Every position is listed. -/
theorem Order.surj (o : Order a π) : Function.Surjective π := Finite.injective_iff_surjective.mp o.inj

/-- No entry exceeds the first listed. -/
theorem Order.le_first (o : Order a π) (j : Fin 512) : a j ≤ a (π 0) := by
  obtain ⟨k, rfl⟩ := o.surj j
  exact o.down 0 k (Fin.zero_le k)

/-- At least 32 entries reach `b` exactly when the 32nd listed does. -/
theorem Order.count_iff (o : Order a π) (b : EReal) :
    32 ≤ (Finset.univ.filter fun j => b ≤ a j).card ↔ b ≤ a (π 31) := by
  constructor
  · intro h
    by_contra hb
    have hsub : (Finset.univ.filter fun j => b ≤ a j) ⊆ (Finset.univ.filter fun k : Fin 512 => k < 31).image π := by
      intro j hj
      obtain ⟨k, rfl⟩ := o.surj j
      refine Finset.mem_image_of_mem _ (Finset.mem_filter.mpr ⟨Finset.mem_univ _, ?_⟩)
      by_contra hk
      exact hb ((Finset.mem_filter.mp hj).2.trans (o.down 31 k (not_lt.mp hk)))
    have h1 := (Finset.card_le_card hsub).trans Finset.card_image_le
    have h2 : (Finset.univ.filter fun k : Fin 512 => k < 31).card = 31 := by decide
    omega
  · intro h
    have hsub : (Finset.univ.filter fun k : Fin 512 => k < 32).image π ⊆ (Finset.univ.filter fun j => b ≤ a j) := by
      intro j hj
      obtain ⟨k, hk, rfl⟩ := Finset.mem_image.mp hj
      refine Finset.mem_filter.mpr ⟨Finset.mem_univ _, h.trans (o.down k 31 ?_)⟩
      have := (Finset.mem_filter.mp hk).2
      simp only [Fin.lt_def, Fin.le_def] at this ⊢
      omega
    have h1 := Finset.card_le_card hsub
    rw [Finset.card_image_of_injective _ o.inj] at h1
    have h2 : (Finset.univ.filter fun k : Fin 512 => k < 32).card = 32 := by decide
    omega

/-- Twenty halvings of `[0, a (π 0)]` that keep the 32nd largest inside leave a lower bound that exactly the 32 largest
    entries reach, when the 32nd exceeds the 33rd by more than the largest's `2⁻²⁰`. -/
theorem Order.lower_iff (o : Order a π) (h0 : ∀ j, 0 ≤ a j)
    (gap : a (π 32) + a (π 0) * (((2 : ℝ) ^ 20)⁻¹ : ℝ) < a (π 31)) (lo hi : ℕ → EReal)
    (lo0 : lo 0 = 0) (hi0 : hi 0 = a (π 0))
    (los : ∀ n, lo (n + 1) = if (lo n + hi n) * ((1 / 2 : ℝ) : EReal) ≤ a (π 31) then (lo n + hi n) * ((1 / 2 : ℝ) : EReal) else lo n)
    (his : ∀ n, hi (n + 1) = if (lo n + hi n) * ((1 / 2 : ℝ) : EReal) ≤ a (π 31) then hi n else (lo n + hi n) * ((1 / 2 : ℝ) : EReal))
    (j : Fin 512) : lo 20 ≤ a j ↔ ∃ k : Fin 512, k < 32 ∧ π k = j := by
  have hw : (0 : ℝ) < ((2 : ℝ) ^ 20)⁻¹ := by positivity
  have hM : a (π 0) ≠ ⊤ := by
    intro h
    rw [h, EReal.top_mul_coe_of_pos hw,
      EReal.add_top_of_ne_bot (ne_of_gt (lt_of_lt_of_le EReal.bot_lt_zero (h0 _)))] at gap
    exact absurd gap not_top_lt
  have fin (j : Fin 512) : ∃ r : ℝ, a j = r ∧ 0 ≤ r := by
    have hb : a j ≠ ⊥ := ne_of_gt (lt_of_lt_of_le EReal.bot_lt_zero (h0 j))
    have ht : a j ≠ ⊤ := fun h => hM (top_le_iff.mp (h ▸ o.le_first j))
    refine ⟨(a j).toReal, (EReal.coe_toReal ht hb).symm, ?_⟩
    have := h0 j
    rw [← EReal.coe_toReal ht hb] at this
    exact_mod_cast this
  obtain ⟨M, eM, hM0⟩ := fin (π 0)
  obtain ⟨T, eT, hT0⟩ := fin (π 31)
  obtain ⟨S, eS, hS0⟩ := fin (π 32)
  have hTM : T ≤ M := by
    have := o.le_first (π 31)
    rw [eT, eM] at this
    exact_mod_cast this
  have hgap : S + M * ((2 : ℝ) ^ 20)⁻¹ < T := by
    rw [eS, eM, eT] at gap
    exact_mod_cast gap
  have inv (n : ℕ) : ∃ l h : ℝ, lo n = l ∧ hi n = h ∧ l ≤ T ∧ T ≤ h ∧ h - l = M / 2 ^ n := by
    induction n with
    | zero => exact ⟨0, M, by rw [lo0]; rfl, by rw [hi0, eM], hT0, hTM, by simp⟩
    | succ n ih =>
      obtain ⟨l, h, el, eh, hl, hh, hd⟩ := ih
      have em : (lo n + hi n) * ((1 / 2 : ℝ) : EReal) = (((l + h) * (1 / 2) : ℝ) : EReal) := by
        rw [el, eh]; push_cast; rfl
      rw [los, his, em, eT]
      have e2 : M / 2 ^ (n + 1) = (h - l) / 2 := by rw [hd, pow_succ]; field_simp
      by_cases hc : (l + h) * (1 / 2) ≤ T
      · rw [if_pos (by exact_mod_cast hc), if_pos (by exact_mod_cast hc)]
        exact ⟨_, h, rfl, eh, hc, hh, by rw [e2]; ring⟩
      · rw [if_neg (by exact_mod_cast hc), if_neg (by exact_mod_cast hc)]
        exact ⟨l, _, el, rfl, hl, (not_le.mp hc).le, by rw [e2]; ring⟩
  obtain ⟨l, h, el, -, hl, hh, hd⟩ := inv 20
  have hSl : S < l := by
    have : M / 2 ^ 20 = M * ((2 : ℝ) ^ 20)⁻¹ := div_eq_mul_inv _ _
    linarith
  rw [el]
  constructor
  · intro hj
    obtain ⟨k, rfl⟩ := o.surj j
    refine ⟨k, ?_, rfl⟩
    by_contra hk
    have h1 := o.down 32 k (not_lt.mp hk)
    rw [eS] at h1
    exact absurd (hj.trans h1) (not_le.mpr (by exact_mod_cast hSl))
  · rintro ⟨k, hk, rfl⟩
    refine le_trans ?_ (o.down k 31 (by simp only [Fin.lt_def, Fin.le_def] at hk ⊢; omega))
    rw [eT]
    exact_mod_cast hl

end Cert.RowMath
-- ==== Proof.Kept.lean ====
/-
  One row of a block's scores over the extended reals: the twenty halvings read as the halvings of
  `RowMath`, so that a score is kept exactly when its magnitude is one of the row's 32 largest.
-/
module

public import proofs.«01_k».proof.Proof.Search
public import proofs.«01_k».proof.Proof.RowMath
public import Idealize.ShloMosaic.Lib.ValueIdx
public import Idealize.ShloMosaic.Lib.ValueLayout
public import Idealize.ShloMosaic.Lib.ValueLayoutCasts
public import Idealize.ShloMosaic.Lib.WordSum
public import Idealize.ShloMosaic.PureOps.Ideal.Laws

@[expose] public section

set_option maxRecDepth 16384

noncomputable section

namespace Cert.KernelIdeal.Kept

open Cert.KernelIdeal Cert.KernelIdeal.Gen Cert.KernelIdeal.Search Cert.RowMath
open Idealize.ShloMosaic Idealize.ShloMosaic.ValueIdx Idealize.SL.Sem

variable (a : FVec Ideal S1024x512 .f32) (b l h : FVec Ideal S1024x1 .f32) (r : Fin 1024)

/-- The index of row `r` and column `k`, from the row and the column that a reduction along rows sums over. -/
theorem lift_row (k : Fin 512) : reduces_S1024x512_S1024.lift (ix1 r : S1024.Idx) k = (ix2 r k : S1024x512.Idx) := by
  funext d
  match d with
  | ⟨0, _⟩ => rfl
  | ⟨1, _⟩ => rfl

/-- The column of bounds read along a row. -/
theorem spread_apply (j : Fin 512) :
    broadcastTo S1024x512 b broadcasts_S1024x1_S1024x512 (ix2 r j) = b (ix2 r 0) :=
  broadcastTo_apply b _ (ix2 r j) (ix2 r 0) (fun d => by
    match d with
    | ⟨0, _⟩ => rfl
    | ⟨1, _⟩ => rfl)

/-- Where a magnitude reaches its row's bound. -/
theorem reach_apply (j : Fin 512) :
    reach a b (ix2 r j) = BitVec.ofBool (decide (b (ix2 r 0) ≤ a (ix2 r j))) := by
  unfold reach
  rw [cmpf_apply, spread_apply]
  rfl

/-- The largest magnitude of a row is the first in order. -/
theorem rowMax_apply {π : Fin 512 → Fin 512} (o : Order (fun j => a (ix2 r j)) π) :
    rowMax a (ix2 r 0) = a (ix2 r (π 0)) := by
  unfold rowMax
  rw [shapeCast_a_a1_apply]
  refine (Ideal.multiReduction_maximumf_single a _ _ _ _ _).trans ?_
  have e : FloatOps.ofBits (F := Ideal) .f32 0xFF800000#32 = (⊥ : EReal) := by
    rw [Ideal.ofBits_def]; simp [Ideal.ofBits, Ideal.ieee]
  rw [e]
  refine le_antisymm ((Finset.fold_max_le _).mpr ⟨bot_le, fun k _ => ?_⟩) ((Finset.le_fold_max _).mpr (.inr ⟨π 0, Finset.mem_univ _, ?_⟩))
  · exact (congrArg a (lift_row r k)).trans_le (o.le_first k)
  · exact (congrArg a (lift_row r (π 0))).ge

/-- A row's tally of a table of zeros and ones is the number of ones. -/
theorem tally_apply (p : Fin 512 → Prop) [DecidablePred p] (w : IVec S1024x512 32)
    (hw : ∀ j, w (ix2 r j) = if p j then 1#32 else 0#32) :
    (tally w (ix1 r)).toNat = (Finset.univ.filter p).card := by
  have e : ∑ i ∈ Finset.univ.filter (fun i => reduces_S1024x512_S1024.drop i = (ix1 r : S1024.Idx)), (w i).toNat
      = (Finset.univ.filter p).card := by
    rw [reduces_S1024x512_S1024.sum_filter_drop_single (fun i => (w i).toNat) (ix1 r), Finset.card_filter]
    refine Finset.sum_congr rfl fun k _ => ?_
    refine (congrArg (fun i => (w i).toNat) (lift_row r k)).trans ((congrArg BitVec.toNat (hw k)).trans ?_)
    split <;> rfl
  refine (WordSum.toNat_multiReductionI_add w _ rfl (ix1 r) ?_).trans e
  rw [e]
  exact lt_of_le_of_lt (Finset.card_le_univ _) (by decide)

/-- An integer comparison at an index compares the elements. -/
theorem cmpi_apply {s : Shape} {w : Nat} (p : CmpIPredicate) (x y : IVec s w) (i : s.Idx) :
    cmpi p x y i = IntOp.cmpi p (x i) (y i) := rfl

/-- The signed comparison with 32 of a small word. -/
theorem cmpi_sge_32 (v : BitVec 32) (h : v.toNat ≤ 512) :
    IntOp.cmpi .sge v 32#32 = BitVec.ofBool (decide (32 ≤ v.toNat)) := by
  show BitVec.ofBool (BitVec.sle 32#32 v) = _
  congr 1
  rw [Bool.eq_iff_iff, decide_eq_true_iff, BitVec.sle_iff_toInt_le, BitVec.toInt_eq_toNat_of_lt (by simp),
    BitVec.toInt_eq_toNat_of_lt (by omega)]
  exact Int.ofNat_le

/-- The test of a bound: whether at least 32 of the row's magnitudes reach it, hence whether the 32nd does. -/
theorem enough_apply {π : Fin 512 → Fin 512} (o : Order (fun j => a (ix2 r j)) π) :
    enough a b (ix2 r 0) = BitVec.ofBool (decide (b (ix2 r 0) ≤ a (ix2 r (π 31)))) := by
  have hc := tally_apply r (fun j => b (ix2 r 0) ≤ a (ix2 r j))
    (extui 32 (xori (reach a b)
        (broadcastTo S1024x512 (broadcast S1024x512 0#1) broadcasts_S1024x512_S1024x512)) natLt_1_32)
    (fun j => by
      show ((reach a b (ix2 r j)) ^^^ 0#1).setWidth 32 = _
      rw [reach_apply]
      by_cases hb : b (ix2 r 0) ≤ a (ix2 r j)
      · rw [if_pos hb, decide_eq_true hb]; rfl
      · rw [if_neg hb, decide_eq_false hb]; rfl)
  unfold enough
  rw [cmpi_apply, shapeCast_a_a1_apply, broadcast_apply]
  have hle : (Finset.univ.filter fun j => b (ix2 r 0) ≤ a (ix2 r j)).card ≤ 512 := Finset.card_le_univ _
  have hi := o.count_iff (b (ix2 r 0))
  rw [cmpi_sge_32 _ (hc.trans_le hle)]
  simp only [hc, hi]

/-- The middle of two bounds. -/
theorem middle_apply : middle l h (ix2 r 0) = (l (ix2 r 0) + h (ix2 r 0)) * ((1 / 2 : ℝ) : EReal) := by
  have e : Ideal.ofBits .f32 0x3F000000#32 = ((1 / 2 : ℝ) : EReal) := by
    simp [Ideal.ofBits, Ideal.ieee, -EReal.coe_mul]; norm_num
  show (l (ix2 r 0) + h (ix2 r 0)) * Ideal.ofBits .f32 0x3F000000#32 = _
  rw [e]

/-- The lower bound starts at zero. -/
theorem lower_zero : lower a 0 (ix2 r 0) = 0 := by
  simp only [lower, bounds, broadcast_apply]
  exact Ideal.ofBits_zero_f32

/-- The upper bound starts at the row's largest. -/
theorem upper_zero : upper a 0 = rowMax a := by
  simp only [upper, bounds]

/-- A magnitude is not negative. -/
theorem absf_nonneg (x : FVec Ideal S1024x512 .f32) (i : S1024x512.Idx) : (0 : EReal) ≤ absf x i := by
  show (0 : EReal) ≤ max (x i) (-(x i))
  rcases le_total (0 : EReal) (x i) with hx | hx
  · exact le_max_of_le_left hx
  · exact le_max_of_le_right (by simpa using EReal.neg_le_neg_iff.mpr hx)

/-- A choice on the truth of a statement. -/
theorem select_ofBool {α : Type} (p : Prop) [Decidable p] (x y : α) :
    Scalar.select (BitVec.ofBool (decide p)) x y = if p then x else y := by
  by_cases hp : p
  · rw [decide_eq_true hp, if_pos hp]; rfl
  · rw [decide_eq_false hp, if_neg hp]; rfl

/-- A block's kept score, in a row whose 32nd largest magnitude stands clear of the 33rd: the score where its magnitude
    is one of the 32 largest, zero elsewhere. -/
theorem kept_apply (x : FVec Ideal S1024x512 .f32) {π : Fin 512 → Fin 512}
    (o : Order (fun j => absf x (ix2 r j)) π)
    (gap : absf x (ix2 r (π 32)) + absf x (ix2 r (π 0)) * (((2 : ℝ) ^ 20)⁻¹ : ℝ) < absf x (ix2 r (π 31))) (j : Fin 512)
    [Decidable (∃ k : Fin 512, k < 32 ∧ π k = j)] :
    kept x (ix2 r j) = if ∃ k : Fin 512, k < 32 ∧ π k = j then x (ix2 r j) else 0 := by
  have hz : Ideal.ofBits .f32 0x00000000#32 = 0 := Ideal.ofBits_zero_f32
  unfold kept
  rw [select_apply, reach_apply, select_ofBool]
  have key := o.lower_iff (fun j => absf_nonneg x _) gap (fun n => lower (absf x) n (ix2 r 0)) (fun n => upper (absf x) n (ix2 r 0))
    (lower_zero _ r) ((congrFun (upper_zero _) _).trans (rowMax_apply _ r o))
    (fun n => by
      rw [← middle_apply, ← select_ofBool, ← enough_apply (absf x) _ r o]
      exact (congrFun (lower_step (absf x) n) (ix2 r 0)).symm)
    (fun n => by
      rw [← middle_apply, ← select_ofBool, ← enough_apply (absf x) _ r o]
      exact (congrFun (upper_step (absf x) n) (ix2 r 0)).symm) j
  simp only [key]
  show (if _ then _ else Ideal.ofBits .f32 0x00000000#32) = _
  rw [hz]

end Cert.KernelIdeal.Kept
-- ==== Proof.TopOrder.lean ====
/-
  The host's top-k of a table of 16384 rows, read at an index over the extended reals: one order of each row's
  columns, from the largest entry down, gives both the values and the positions of every k.
-/
module

public import proofs.«01_k».proof.Proof.RowMath
public import Idealize.ShloMosaic.Lib.ValueIdx
public import Idealize.ShloMosaic.Lib.SortFacts
public import Idealize.ShloMosaic.PureOps.Ideal.Laws

@[expose] public section

set_option maxRecDepth 16384

noncomputable section

namespace Cert.TopOrder

open Cert.RowMath Idealize.ShloMosaic Idealize.ShloMosaic.ValueIdx

abbrev Table : Shape := ⟨2, ![16384, 512]⟩

variable (a : FVec Ideal Table .f32) (r : Fin 16384)

/-- Row `r`'s columns from the largest entry down, equal entries in column order. -/
def order : Fin 512 → Fin 512 :=
  sortedFrom (fun k k' => FloatOps.cmpfTotal (F := Ideal) (φ := .f32) .gt (a (ix2 r k)) (a (ix2 r k')) == 1#1)

/-- The total order's `gt` is the order of the extended reals. -/
theorem gt_iff (x y : Ideal .f32) : (FloatOps.cmpfTotal (F := Ideal) (φ := .f32) .gt x y == 1#1) = decide ((y : EReal) < x) := by
  show (BitVec.ofBool (decide ((y : EReal) < x)) == 1#1) = _
  cases decide ((y : EReal) < x) <;> rfl

/-- `order` lists the row from the largest entry down. -/
theorem order_spec : Order (fun j => (a (ix2 r j) : EReal)) (order a r) where
  inj := sortedFrom_injective _
  down i j hij := by
    rcases eq_or_lt_of_le hij with rfl | hlt
    · exact le_refl _
    · have h := sortedFrom_noInversion
        (fun k k' => FloatOps.cmpfTotal (F := Ideal) (φ := .f32) .gt (a (ix2 r k)) (a (ix2 r k')) == 1#1) _
        (fun x y h => by
          rw [gt_iff] at h ⊢
          exact decide_eq_false (not_lt.mpr (of_decide_eq_true h).le))
        (fun x y h => h)
        (fun x y z h h' => by
          rw [gt_iff] at h h' ⊢
          exact decide_eq_false (not_lt.mpr ((not_lt.mp (of_decide_eq_false h)).trans (not_lt.mp (of_decide_eq_false h')))))
        i j hlt
      rw [gt_iff] at h
      exact not_lt.mp (of_decide_eq_false h)

variable {K : Nat} (hK : K ≤ 512) (h : Table.Slices (fun _ => 0) (⟨2, ![16384, K]⟩ : Shape))

/-- The index of row `r` with its column replaced. -/
theorem along_row (j k : Fin 512) : Shape.Idx.along (s := Table) (ix2 r j) 1 k = ix2 r k := by
  funext d
  match d with
  | ⟨0, _⟩ => rfl
  | ⟨1, _⟩ => rfl

/-- A sort along the rows of a table and a second table moved with it, at an index. -/
theorem sort2_apply {α β : Type} (cmp : α × β → α × β → BitVec 1) (x : Table.Idx → α) (y : Table.Idx → β) (q : Fin 512) :
    let π := sortedFrom (fun k k' => cmp (x (ix2 r k), y (ix2 r k)) (x (ix2 r k'), y (ix2 r k')) == 1#1)
    (Host.sort2 Table 1 cmp x y).1 (ix2 r q) = x (ix2 r (π q)) ∧ (Host.sort2 Table 1 cmp x y).2 (ix2 r q) = y (ix2 r (π q)) := by
  have e (k : Fin 512) : Shape.Idx.along (s := Table) (ix2 r q) 1 k = ix2 r k := along_row r q k
  unfold Host.sort2
  rw [dif_pos (show 1 < Table.rank by decide)]
  constructor
  · refine (congrArg x (e _)).trans (congrArg (fun f => x (ix2 r (sortedFrom f q))) ?_)
    funext k k'
    exact congrArg₂ (fun i i' => cmp (x i, y i) (x i', y i') == 1#1) (e k) (e k')
  · refine (congrArg y (e _)).trans (congrArg (fun f => y (ix2 r (sortedFrom f q))) ?_)
    funext k k'
    exact congrArg₂ (fun i i' => cmp (x i, y i) (x i', y i') == 1#1) (e k) (e k')

/-- A slice from the origin keeps the index. -/
theorem slice_apply {α : Type} (x : Table.Idx → α) (k : Fin K) :
    extractStridedSlice (⟨2, ![16384, K]⟩ : Shape) (fun _ => 0) x h (ix2 r k) = x (ix2 r ⟨k, k.isLt.trans_le hK⟩) := by
  unfold extractStridedSlice
  refine congrArg x (funext fun d => Fin.ext ?_)
  match d with
  | ⟨0, _⟩ => exact Nat.zero_add _
  | ⟨1, _⟩ => exact Nat.zero_add _

/-- Each entry's column, as the top-k carries it. -/
def columns : IVec Table 32 := fun i => if hd : 1 < Table.rank then iotaInDim Table 32 ⟨1, hd⟩ i else 0#32

/-- A column read at an index. -/
theorem columns_apply (j : Fin 512) : columns (ix2 r j) = BitVec.ofNat 32 j.val := by
  unfold columns
  rw [dif_pos (show 1 < Table.rank by decide)]
  rfl

/-- The top-k is the first `K` of the sorted table and of its columns moved with it. -/
theorem topK_eq : Host.topK (⟨2, ![16384, K]⟩ : Shape) 1 (FloatOps.cmpfTotal .gt) a h
    = (extractStridedSlice (⟨2, ![16384, K]⟩ : Shape) (fun _ => 0)
        (Host.sort2 Table 1 (fun l r => FloatOps.cmpfTotal .gt l.1 r.1) a columns).1 h,
      extractStridedSlice (⟨2, ![16384, K]⟩ : Shape) (fun _ => 0)
        (Host.sort2 Table 1 (fun l r => FloatOps.cmpfTotal .gt l.1 r.1) a columns).2 h) := by
  unfold Host.topK columns
  rfl

/-- The `k`-th largest entry of row `r`. -/
theorem topK_values (k : Fin K) :
    (Host.topK (⟨2, ![16384, K]⟩ : Shape) 1 (FloatOps.cmpfTotal .gt) a h).1 (ix2 r k) = a (ix2 r (order a r ⟨k, k.isLt.trans_le hK⟩)) := by
  rw [topK_eq]
  refine (slice_apply r hK h _ k).trans ((sort2_apply r (fun l r => FloatOps.cmpfTotal .gt l.1 r.1) a columns _).1.trans ?_)
  unfold order
  rfl

/-- Its column. -/
theorem topK_indices (k : Fin K) :
    (Host.topK (⟨2, ![16384, K]⟩ : Shape) 1 (FloatOps.cmpfTotal .gt) a h).2 (ix2 r k) = BitVec.ofNat 32 (order a r ⟨k, k.isLt.trans_le hK⟩).val := by
  rw [topK_eq]
  refine (slice_apply r hK h _ k).trans ((sort2_apply r (fun l r => FloatOps.cmpfTotal .gt l.1 r.1) a columns _).2.trans ?_)
  rw [columns_apply]
  unfold order
  rfl

end Cert.TopOrder
-- ==== Proof.Mask.lean ====
/-
  What the mask says. Where it is set, the row's 33rd largest magnitude plus 2^-20 of its largest is below its 32nd
  largest: the 32nd and the 33rd stand further apart than the interval in which the kernel's bisection ends.
-/
module

public import proofs.«01_k».proof.Proof.TopOrder
public import proofs.«01_k».proof.Proof.Gen.ReferenceIdeal.Read
public import proofs.«01_k».proof.Proof.Gen.On_separated
public import Idealize.ShloMosaic.Lib.ValueIdx
public import Idealize.ShloMosaic.Lib.ValueLayout
public import Idealize.ShloMosaic.Lib.Pipeline.Value
public import Idealize.ShloMosaic.PureOps.Ideal.Laws

@[expose] public section

set_option maxRecDepth 16384

noncomputable section

namespace Cert.On_separated

open Cert.On_separated.Facts Cert.TopOrder
open Idealize.ShloMosaic Idealize.ShloMosaic.ValueIdx

/-- Row `r` of a table `a` of magnitudes is separated: its 33rd largest entry plus 2^-20 of its largest is below its
    32nd largest. -/
def Gap (a : FVec Ideal Table .f32) (r : Fin 16384) : Prop :=
  a (ix2 r (order a r 32)) + a (ix2 r (order a r 0)) * (((2 : ℝ) ^ 20)⁻¹ : ℝ) < (a (ix2 r (order a r 31)) : EReal)

/-- The mask's largest entries of a table, 33 of each row. -/
def largest (a : FVec Ideal S16384x512 .f32) : FVec Ideal S16384x33 .f32 :=
  (Host.topK S16384x33 1 (FloatOps.cmpfTotal .gt) a sliceFits_S16384x512_S16384x33).1

/-- The mask's test of each row. -/
def test (a : FVec Ideal S16384x512 .f32) : IVec S16384 1 :=
  cmpf .olt
    (addf (shapeCast S16384 (extractStridedSlice S16384x1 ![0, 32] (largest a) slices_S16384x33_S16384x1_0_32) shapeCasts_S16384x1_S16384)
      (mulf (shapeCast S16384 (extractStridedSlice S16384x1 ![0, 0] (largest a) slices_S16384x33_S16384x1_0_0) shapeCasts_S16384x1_S16384)
        (broadcastInDim S16384 ![] bcast_S_S16384 (constant S_ .f32 0x35800000#32))))
    (shapeCast S16384 (extractStridedSlice S16384x1 ![0, 31] (largest a) slices_S16384x33_S16384x1_0_31) shapeCasts_S16384x1_S16384)

/-- A test of each row spread over the row. -/
def spread (t : IVec S16384 1) : IVec S16384x512 1 :=
  broadcastInDim S16384x512 ![0, 1] bcast_S16384x1_S16384x512_0_1 (broadcastInDim S16384x1 ![0] bcast_S16384_S16384x1_0 t)

/-- The mask is the two tests, of the two tables of scores. -/
theorem fn_part1_eq (s o : FVec Ideal S16384x512 .f32) : fn_part1 (F := Ideal) s o = (spread (test (Host.absf s)), spread (test (Host.absf o))) := rfl

/-- The spread test at an index is the row's. -/
theorem spread_apply (t : IVec S16384 1) (r : Fin 16384) (j : Fin 512) : spread t (ix2 r j) = t (ix1 r) := by
  unfold spread
  rw [broadcastInDim_apply _ bcast_S16384x1_S16384x512_0_1 _ (ix2 r j) (ix2 r (0 : Fin 1)) (fun a => by match a with | ⟨0, _⟩ => rfl | ⟨1, _⟩ => rfl)]
  rw [broadcastInDim_apply _ bcast_S16384_S16384x1_0 _ (ix2 r (0 : Fin 1)) (ix1 r) (fun a => by match a with | ⟨0, _⟩ => rfl)]

/-- A row's entry at place `q` of its largest. -/
theorem largest_apply (a : FVec Ideal S16384x512 .f32) (off : Fin 2 → ℕ) (q : Fin 33) (ho : off = ![0, q.val]) (hs : S16384x33.Slices off S16384x1) (r : Fin 16384) :
    shapeCast S16384 (extractStridedSlice S16384x1 off (largest a) hs) shapeCasts_S16384x1_S16384 (ix1 r)
      = a (ix2 r (order a r ⟨q.val, q.isLt.trans_le (by decide)⟩)) := by
  subst ho
  refine (shapeCast_apply _ _ (ix1 r) (ix2 r (0 : Fin 1)) ?_).trans ?_
  · rw [Shape.rowMajor_val_two, Shape.rowMajor_val_one]
    show r.val * 1 + 0 = r.val
    omega
  refine (extractStridedSlice_apply _ _ _ _ (ix2 r q) (fun b => ?_)).trans (topK_values a r (by decide) _ q)
  match b with
  | ⟨0, _⟩ => exact (Nat.zero_add _).symm
  | ⟨1, _⟩ => rfl

/-- What a comparison says at an index. -/
theorem lt_of_cmpf {s : Shape} (x y : FVec Ideal s .f32) (i : s.Idx) (h : cmpf .olt x y i = 1#1) : (x i : EReal) < y i := by
  by_contra hn
  have h0 : BitVec.ofBool (decide ((x i : EReal) < y i)) = 1#1 := h
  rw [decide_eq_false hn] at h0
  exact absurd h0 (by decide)

/-- A row that passes the test is separated. -/
theorem gap_of_test (a : FVec Ideal S16384x512 .f32) (r : Fin 16384) (h : test a (ix1 r) = 1#1) : Gap a r := by
  have e : (FloatOps.ofBits .f32 0x35800000#32 : Ideal .f32) = (((2 : ℝ) ^ 20)⁻¹ : ℝ) := by
    simp [Ideal.ofBits, Ideal.ieee, -EReal.coe_mul]; norm_num
  have hb : broadcastInDim S16384 ![] bcast_S_S16384 (constant (F := Ideal) S_ .f32 0x35800000#32) (ix1 r) = ((((2 : ℝ) ^ 20)⁻¹ : ℝ) : EReal) :=
    (broadcastInDim_apply _ bcast_S_S16384 _ (ix1 r) (fun b => b.elim0) (fun b => b.elim0)).trans e
  have e32 := largest_apply a ![0, 32] 32 rfl slices_S16384x33_S16384x1_0_32 r
  have e0 := largest_apply a ![0, 0] 0 rfl slices_S16384x33_S16384x1_0_0 r
  have e31 := largest_apply a ![0, 31] 31 rfl slices_S16384x33_S16384x1_0_31 r
  exact ((congrArg₂ (fun p q : EReal => p + q) e32 (congrArg₂ (fun p q : EReal => p * q) e0 hb)).ge.trans_lt (lt_of_cmpf _ _ _ h)).trans_le e31.le

end Cert.On_separated

namespace Cert.ReferenceIdeal.Scores

open Cert.ReferenceIdeal Cert.ReferenceIdeal.Gen Cert.ReferenceIdeal.Read Cert.TopOrder Cert.On_separated
open Idealize.ShloMosaic Idealize.ShloMosaic.ValueIdx

variable (x0 : FVec Ideal S16384x256 .f32) (x1 : FVec Ideal S16384x64 .f32) (x2 : FVec Ideal S320x1024 .f32) (x3 : FVec Ideal S1024 .f32)
  (x4 : FVec Ideal S1024x1024 .f32) (x5 : FVec Ideal S1024 .f32) (x6 : FVec Ideal S1024x512 .f32) (x7 : FVec Ideal S512 .f32)
  (x8 : FVec Ideal S1024x256 .f32) (x9 : FVec Ideal S256 .f32) (x10 : FVec Ideal S256x512 .f32) (x11 : FVec Ideal S512 .f32)

/-- The mask tests the plain program's two tables of scores. -/
theorem fn_eq : Cert.On_separated.fn (F := Ideal) x0 x1 x2 x3 x4 x5 x6 x7 x8 x9 x10 x11
    = fn_part1 (F := Ideal) (val_main_v14 (F := Ideal) x0 x1 x2 x3 x4 x5 x6 x7) (val_main_v23 (F := Ideal) x0 x1 x2 x3 x4 x5 x8 x9 x10 x11) := rfl

variable (r : Fin 16384) (j : Fin 512)

/-- Where the first mask is set, the row of shared scores is separated. -/
theorem gap_shared (h : (Cert.On_separated.fn (F := Ideal) x0 x1 x2 x3 x4 x5 x6 x7 x8 x9 x10 x11).1 (ix2 r j) = 1#1) :
    Gap (val_main_v24 (F := Ideal) x0 x1 x2 x3 x4 x5 x6 x7) r := by
  rw [fn_eq, fn_part1_eq] at h
  exact gap_of_test _ r ((spread_apply _ r j).symm.trans h)

/-- Where the second mask is set, the row of private scores is separated. -/
theorem gap_own (h : (Cert.On_separated.fn (F := Ideal) x0 x1 x2 x3 x4 x5 x6 x7 x8 x9 x10 x11).2 (ix2 r j) = 1#1) :
    Gap (val_main_v45 (F := Ideal) x0 x1 x2 x3 x4 x5 x8 x9 x10 x11) r := by
  rw [fn_eq, fn_part1_eq] at h
  exact gap_of_test _ r ((spread_apply _ r j).symm.trans h)

end Cert.ReferenceIdeal.Scores
-- ==== Proof.RefResult.lean ====
/-
  The plain program's two results at an index: the table of ones it scatters is one exactly at the columns
  of a row's 32 largest magnitudes, so each result is the score there and zero elsewhere.
-/
module

public import proofs.«01_k».proof.Proof.TopOrder
public import proofs.«01_k».proof.Proof.Gen.ReferenceIdeal.Read
public import Idealize.ShloMosaic.Lib.ScatterToDense.RefScatter
public import Idealize.ShloMosaic.Lib.Routing.OpsPair
public import Idealize.ShloMosaic.Lib.IdealHost
public import Idealize.ShloMosaic.Lib.Pipeline.Value

@[expose] public section

set_option maxRecDepth 16384

noncomputable section

namespace Cert.ReferenceIdeal.Result

open Cert.ReferenceIdeal Cert.ReferenceIdeal.Gen Cert.ReferenceIdeal.Read Cert.RowMath Cert.TopOrder
open Idealize.ShloMosaic Idealize.ShloMosaic.ValueIdx Idealize.ShloMosaic.ScatterToDense

/-- Ones set over zeros: one where some candidate names the column. -/
theorem GS_ones (word : ℕ → BitVec 32) (col : ℕ) [∀ n, Decidable (∃ k, k < n ∧ col = (word k).toNat)] (n : ℕ) :
    GS word (fun _ => (1 : EReal)) 0 col n = if ∃ k, k < n ∧ col = (word k).toNat then 1 else 0 := by
  classical
  induction n with
  | zero => rw [GS_zero, if_neg (by rintro ⟨k, hk, -⟩; omega)]
  | succ n ih =>
    rw [GS_succ, ih]
    by_cases hn : col = (word n).toNat
    · rw [if_pos hn, if_pos ⟨n, Nat.lt_succ_self n, hn⟩]
    · rw [if_neg hn]
      by_cases he : ∃ k, k < n ∧ col = (word k).toNat
      · obtain ⟨k, hk, e⟩ := he
        rw [if_pos ⟨k, hk, e⟩, if_pos ⟨k, by omega, e⟩]
      · rw [if_neg he, if_neg]
        rintro ⟨k, hk, e⟩
        rcases Nat.lt_succ_iff_lt_or_eq.mp hk with h | rfl
        · exact he ⟨k, h, e⟩
        · exact hn e

section Scatter

variable (a : FVec Ideal Table .f32) (rows cols : IVec S16384x32x1 32)

/-- The scattered table at an index, from the two columns of the index table: the row numbers, and the columns of the
    32 largest entries of `a`. -/
theorem scatter_apply
    (hrows : ∀ (r : Fin 16384) (k : Fin 32), rows (ix3 r k (0 : Fin 1)) = BitVec.ofNat 32 r.val)
    (hcols : ∀ (r : Fin 16384) (k : Fin 32), cols (ix3 r k (0 : Fin 1)) = BitVec.ofNat 32 (order a r ⟨k, k.isLt.trans_le (by decide)⟩).val)
    (zeros : FVec Ideal S16384x512 .f32) (ones : FVec Ideal S16384x32 .f32) (hz : ∀ i, zeros i = (0 : EReal)) (ho : ∀ i, ones i = (1 : EReal))
    (r : Fin 16384) (j : Fin 512) [Decidable (∃ k : Fin 512, k < 32 ∧ order a r k = j)] :
    Host.scatter scatter_S16384x512_S16384x32x2_S16384x32_n_01_01_2 (fun _ b => b) zeros
      (concatenate S16384x32x2 2 [⟨S16384x32x1, rows⟩, ⟨S16384x32x1, cols⟩] concatenates_S16384x32x1_S16384x32x1_S16384x32x2_d2)
      ones (ix2 r j) = if ∃ k : Fin 512, k < 32 ∧ order a r k = j then (1 : EReal) else 0 := by
  classical
  refine (scatter_eq_GS scatter_S16384x512_S16384x32x2_S16384x32_n_01_01_2 rfl rfl rfl (by decide) (by decide) zeros _ ones
    (fun r k => BitVec.ofNat 32 (if h : k < 512 then (order a r ⟨k, h⟩).val else 0)) (fun _ _ => (1 : EReal)) ?_ ?_ (fun _ _ => ho _) r j).trans ?_
  · intro r k
    refine (concatenate_pair_apply_left 2 rows cols _ (ix3 r k (0 : Fin 2)) rfl (ix3 r k (0 : Fin 1)) (fun b => ?_)).trans (hrows r k)
    match b with
    | ⟨0, _⟩ => rfl
    | ⟨1, _⟩ => rfl
    | ⟨2, _⟩ => rfl
  · intro r k
    refine (concatenate_pair_apply_right 2 rows cols _ (ix3 r k (1 : Fin 2)) rfl rfl (ix3 r k (0 : Fin 1)) (fun b hb => ?_) rfl).trans ((hcols r k).trans ?_)
    · match b with
      | ⟨0, _⟩ => rfl
      | ⟨1, _⟩ => rfl
      | ⟨2, _⟩ => exact absurd rfl hb
    · rw [dif_pos (k.isLt.trans_le (by decide))]
  · rw [hz, GS_ones]
    refine if_congr ⟨?_, ?_⟩ rfl rfl
    · rintro ⟨k, hk, e⟩
      have hk' : k < 512 := by omega
      rw [dif_pos hk', BitVec.toNat_ofNat, Nat.mod_eq_of_lt (by omega)] at e
      exact ⟨⟨k, hk'⟩, hk, Fin.ext e.symm⟩
    · rintro ⟨k, hk, e⟩
      refine ⟨k.val, hk, ?_⟩
      rw [dif_pos k.isLt, BitVec.toNat_ofNat, Nat.mod_eq_of_lt (by omega), e]

end Scatter

variable (x0 : FVec Ideal S16384x256 .f32) (x1 : FVec Ideal S16384x64 .f32) (x2 : FVec Ideal S320x1024 .f32) (x3 : FVec Ideal S1024 .f32)
  (x4 : FVec Ideal S1024x1024 .f32) (x5 : FVec Ideal S1024 .f32) (x6 : FVec Ideal S1024x512 .f32) (x7 : FVec Ideal S512 .f32)
  (x8 : FVec Ideal S1024x256 .f32) (x9 : FVec Ideal S256 .f32) (x10 : FVec Ideal S256x512 .f32) (x11 : FVec Ideal S512 .f32)

/-- A small count as a word is not negative. -/
theorem toNat_ofNat_lt (n : ℕ) (h : n < 2 ^ 31) : (BitVec.ofNat 32 n).toNat < 2 ^ (32 - 1) := by
  rw [BitVec.toNat_ofNat, Nat.mod_eq_of_lt (by omega)]
  exact h

section shared

/-- The row numbers of the index table. -/
theorem rows_shared (r : Fin 16384) (k : Fin 32) :
    val_main_v39 (F := Ideal) (ix3 r k (0 : Fin 1)) = BitVec.ofNat 32 r.val := by
  rw [val_main_v39_apply, val_main_v38_apply, val_main_v32_apply, val_main_v29_apply, val_main_v28_apply, val_main_c_apply]
  have e : val_main_v26 (F := Ideal) (idx_main_v38 (idx_main_v39 (ix3 r k (0 : Fin 1)))) = BitVec.ofNat 32 r.val := by
    rw [val_main_v26_apply, val_main_v25_apply]
  rw [e]
  exact Routing.wrap_of_lt _ _ (toNat_ofNat_lt _ (by omega))

/-- The columns of the index table. -/
theorem cols_shared (r : Fin 16384) (k : Fin 32) :
    val_main_v40 (F := Ideal) x0 x1 x2 x3 x4 x5 x6 x7 (ix3 r k (0 : Fin 1))
      = BitVec.ofNat 32 (order (val_main_v24 (F := Ideal) x0 x1 x2 x3 x4 x5 x6 x7) r ⟨k, k.isLt.trans_le (by decide)⟩).val := by
  have ei : idx_main_v40 (ix3 r k (0 : Fin 1)) = (ix2 r k : S16384x32.Idx) := by
    funext d
    match d with
    | ⟨0, _⟩ => rfl
    | ⟨1, _⟩ => rfl
  rw [val_main_v40_apply, ei, val_main_v37_apply, val_main_v34_apply, val_main_v33_apply, val_main_c_1_apply]
  have e : val_main_indices (F := Ideal) x0 x1 x2 x3 x4 x5 x6 x7 (ix2 r k)
      = BitVec.ofNat 32 (order (val_main_v24 (F := Ideal) x0 x1 x2 x3 x4 x5 x6 x7) r ⟨k, k.isLt.trans_le (by decide)⟩).val :=
    topK_indices (val_main_v24 (F := Ideal) x0 x1 x2 x3 x4 x5 x6 x7) r (by decide) sliceFits_S16384x512_S16384x32 k
  rw [e]
  exact Routing.wrap_of_lt _ _ (toNat_ofNat_lt _ (by omega))

/-- The first result: the shared score at the 32 largest magnitudes of its row, zero elsewhere. -/
theorem result_shared (r : Fin 16384) (j : Fin 512)
    [Decidable (∃ k : Fin 512, k < 32 ∧ order (val_main_v24 (F := Ideal) x0 x1 x2 x3 x4 x5 x6 x7) r k = j)] :
    val_main_v44 (F := Ideal) x0 x1 x2 x3 x4 x5 x6 x7 (ix2 r j)
      = if ∃ k : Fin 512, k < 32 ∧ order (val_main_v24 (F := Ideal) x0 x1 x2 x3 x4 x5 x6 x7) r k = j then val_main_v14 (F := Ideal) x0 x1 x2 x3 x4 x5 x6 x7 (ix2 r j) else (0 : EReal) := by
  have em : val_main_v43 (F := Ideal) x0 x1 x2 x3 x4 x5 x6 x7 (ix2 r j)
      = if ∃ k : Fin 512, k < 32 ∧ order (val_main_v24 (F := Ideal) x0 x1 x2 x3 x4 x5 x6 x7) r k = j then (1 : EReal) else 0 :=
    scatter_apply _ _ _ rows_shared (cols_shared x0 x1 x2 x3 x4 x5 x6 x7) _ _
      (fun i => by rw [val_main_v27_apply, val_main_cst_apply]; exact Ideal.ofBits_zero_f32)
      (fun i => by rw [val_main_v42_apply, val_main_cst_3_apply]; exact Ideal.ofBits_one_f32) r j
  rw [val_main_v44_apply, em]
  show (val_main_v14 (F := Ideal) x0 x1 x2 x3 x4 x5 x6 x7 (ix2 r j) : EReal) * _ = _
  split
  · exact mul_one _
  · exact mul_zero _

end shared

section own

/-- The row numbers of the index table. -/
theorem rows_own (r : Fin 16384) (k : Fin 32) :
    val_main_v60 (F := Ideal) (ix3 r k (0 : Fin 1)) = BitVec.ofNat 32 r.val := by
  rw [val_main_v60_apply, val_main_v59_apply, val_main_v53_apply, val_main_v50_apply, val_main_v49_apply, val_main_c_7_apply]
  have e : val_main_v47 (F := Ideal) (idx_main_v59 (idx_main_v60 (ix3 r k (0 : Fin 1)))) = BitVec.ofNat 32 r.val := by
    rw [val_main_v47_apply, val_main_v46_apply]
  rw [e]
  exact Routing.wrap_of_lt _ _ (toNat_ofNat_lt _ (by omega))

/-- The columns of the index table. -/
theorem cols_own (r : Fin 16384) (k : Fin 32) :
    val_main_v61 (F := Ideal) x0 x1 x2 x3 x4 x5 x8 x9 x10 x11 (ix3 r k (0 : Fin 1))
      = BitVec.ofNat 32 (order (val_main_v45 (F := Ideal) x0 x1 x2 x3 x4 x5 x8 x9 x10 x11) r ⟨k, k.isLt.trans_le (by decide)⟩).val := by
  have ei : idx_main_v61 (ix3 r k (0 : Fin 1)) = (ix2 r k : S16384x32.Idx) := by
    funext d
    match d with
    | ⟨0, _⟩ => rfl
    | ⟨1, _⟩ => rfl
  rw [val_main_v61_apply, ei, val_main_v58_apply, val_main_v55_apply, val_main_v54_apply, val_main_c_9_apply]
  have e : val_main_indices_5 (F := Ideal) x0 x1 x2 x3 x4 x5 x8 x9 x10 x11 (ix2 r k)
      = BitVec.ofNat 32 (order (val_main_v45 (F := Ideal) x0 x1 x2 x3 x4 x5 x8 x9 x10 x11) r ⟨k, k.isLt.trans_le (by decide)⟩).val :=
    topK_indices (val_main_v45 (F := Ideal) x0 x1 x2 x3 x4 x5 x8 x9 x10 x11) r (by decide) sliceFits_S16384x512_S16384x32 k
  rw [e]
  exact Routing.wrap_of_lt _ _ (toNat_ofNat_lt _ (by omega))

/-- The second result: the private score at the 32 largest magnitudes of its row, zero elsewhere. -/
theorem result_own (r : Fin 16384) (j : Fin 512)
    [Decidable (∃ k : Fin 512, k < 32 ∧ order (val_main_v45 (F := Ideal) x0 x1 x2 x3 x4 x5 x8 x9 x10 x11) r k = j)] :
    val_main_v65 (F := Ideal) x0 x1 x2 x3 x4 x5 x8 x9 x10 x11 (ix2 r j)
      = if ∃ k : Fin 512, k < 32 ∧ order (val_main_v45 (F := Ideal) x0 x1 x2 x3 x4 x5 x8 x9 x10 x11) r k = j then val_main_v23 (F := Ideal) x0 x1 x2 x3 x4 x5 x8 x9 x10 x11 (ix2 r j) else (0 : EReal) := by
  have em : val_main_v64 (F := Ideal) x0 x1 x2 x3 x4 x5 x8 x9 x10 x11 (ix2 r j)
      = if ∃ k : Fin 512, k < 32 ∧ order (val_main_v45 (F := Ideal) x0 x1 x2 x3 x4 x5 x8 x9 x10 x11) r k = j then (1 : EReal) else 0 :=
    scatter_apply _ _ _ rows_own (cols_own x0 x1 x2 x3 x4 x5 x8 x9 x10 x11) _ _
      (fun i => by rw [val_main_v48_apply, val_main_cst_6_apply]; exact Ideal.ofBits_zero_f32)
      (fun i => by rw [val_main_v63_apply, val_main_cst_11_apply]; exact Ideal.ofBits_one_f32) r j
  rw [val_main_v65_apply, em]
  show (val_main_v23 (F := Ideal) x0 x1 x2 x3 x4 x5 x8 x9 x10 x11 (ix2 r j) : EReal) * _ = _
  split
  · exact mul_one _
  · exact mul_zero _

end own

end Cert.ReferenceIdeal.Result
-- ==== Proof.Arrays.lean ====
/-
  The kernel's two result arrays at an index of a separated row: what the plain program leaves there.
-/
module

public import proofs.«01_k».proof.Proof.PointScores
public import proofs.«01_k».proof.Proof.Search
public import proofs.«01_k».proof.Proof.Kept
public import proofs.«01_k».proof.Proof.Mask
public import proofs.«01_k».proof.Proof.RefResult
public import proofs.«01_k».proof.Proof.Gen.KernelIdeal.Value

@[expose] public section

set_option maxRecDepth 16384

noncomputable section

namespace Cert.KernelIdeal.Arrays

open Cert.KernelIdeal Cert.KernelIdeal.Gen Cert.KernelIdeal.Inputs Cert.KernelIdeal.PointScores Cert.KernelIdeal.Search Cert.RowMath Cert.TopOrder
open Idealize.ShloMosaic Idealize.ShloMosaic.TcCoe Idealize.ShloMosaic.ValueIdx Idealize.SL.Sem

/-- A half's kept scores, where the half's row `r` is row `q` of a table of scores and that row is separated. -/
theorem kept_row (x : FVec Ideal S1024x512 .f32) (s : FVec Ideal Table .f32) (r : Fin 1024) (q : Fin 16384)
    (e : ∀ j, x (ix2 r j) = s (ix2 q j)) (gap : Cert.On_separated.Gap (Host.absf s) q) (j : Fin 512)
    [Decidable (∃ k : Fin 512, k < 32 ∧ order (Host.absf s) q k = j)] :
    kept x (ix2 r j) = if ∃ k : Fin 512, k < 32 ∧ order (Host.absf s) q k = j then s (ix2 q j) else (0 : EReal) := by
  have ea : ∀ j, (absf x (ix2 r j) : EReal) = Host.absf s (ix2 q j) := fun j => congrArg (fun v : EReal => max v (-v)) (e j)
  have o : Order (fun j => (absf x (ix2 r j) : EReal)) (order (Host.absf s) q) :=
    (funext ea : (fun j => (absf x (ix2 r j) : EReal)) = fun j => (Host.absf s (ix2 q j) : EReal)) ▸ order_spec (Host.absf s) q
  rw [Kept.kept_apply r x o ?_ j]
  · rw [e j]
  · rw [ea, ea, ea]; exact gap

/-! ## A block of two halves -/

variable (p q : FVec Ideal S1024x512 .f32) (r : Fin 1024) (j : Fin 512)

/-- A first-half row of a block stored in two halves. -/
theorem halves_low : View.canon (Val := Elt Ideal) (e := .f32) [⟨r0_14, p⟩, ⟨r0_11, q⟩] (ix2 (low r) j) = q (ix2 r j) := by
  have e : (ix2 (low r) j : S2048x512.Idx) = r0_11.emb (ix2 r j) := funext fun a => Fin.ext (by
    match a with
    | ⟨0, _⟩ => show r.val = 0 + 1 * r.val; omega
    | ⟨1, _⟩ => show j.val = 0 + 1 * j.val; omega)
  rw [View.canon_cons_of_not_mem, e]
  · exact View.canon_cons_emb (Val := Elt Ideal) (e := .f32) r0_11 q [] (ix2 r j)
  · rw [Rect.mem_set_unit]
    intro h
    have h0 : 1024 ≤ r.val := (h 0).1
    have := r.isLt
    omega

/-- A second-half row of a block stored in two halves. -/
theorem halves_high : View.canon (Val := Elt Ideal) (e := .f32) [⟨r0_14, p⟩, ⟨r0_11, q⟩] (ix2 (high r) j) = p (ix2 r j) := by
  have e : (ix2 (high r) j : S2048x512.Idx) = r0_14.emb (ix2 r j) := funext fun a => Fin.ext (by
    match a with
    | ⟨0, _⟩ => show 1024 + r.val = 1024 + 1 * r.val; omega
    | ⟨1, _⟩ => show j.val = 0 + 1 * j.val; omega)
  rw [e]
  exact View.canon_cons_emb (Val := Elt Ideal) (e := .f32) r0_14 p [⟨r0_11, q⟩] (ix2 r j)

/-- Every row of the arrays lies in the first or in the second half of some point's block. -/
theorem row_cases (g : Fin 16384) : ∃ (t : Fin cfg0.N) (r : Fin 1024), g = row t (low r) ∨ g = row t (high r) := by
  have hg := g.isLt
  refine ⟨⟨g.val / 2048, by show g.val / 2048 < 8; omega⟩, ⟨g.val % 1024, by omega⟩, ?_⟩
  by_cases h : g.val % 2048 < 1024
  · left; apply Fin.ext; show g.val = 2048 * (g.val / 2048) + g.val % 1024; omega
  · right; apply Fin.ext; show g.val = 2048 * (g.val / 2048) + (1024 + g.val % 1024); omega

variable (m : (ℓ : Loc nD τ sig) → Buf (Elt Ideal) ℓ) (c : Dev nD) (t : Fin cfg0.N)

/-- The block of point `t` of result 1 starts at row `2048 t`. -/
theorem shared_index : ∀ t : Fin grid0.N, win0_13.index t 0 = t.val ∧ win0_13.index t 1 = 0 := by decide +kernel

/-- Result 1 at a row of the block of point `t`: what that point stores. -/
theorem shared_stored (i : Fin 2048) :
    ((dats m 0 c).arrAt 13 cfg0.N : S16384x512.Idx → EReal) (ix2 (row t i) j) = (out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i j) : EReal) := by
  have h := congrFun (Value.blocks13 m c t (flush0_13 t)) (ix2 i j)
  rw [View.read_apply, Value.flushed13] at h
  refine Eq.trans (congrArg ((dats m 0 c).arrAt 13 cfg0.N : S16384x512.Idx → EReal) (funext fun a => Fin.ext ?_)) h
  match a with
  | ⟨0, _⟩ => show 2048 * t.val + i.val = win0_13.index t 0 * 2048 + 1 * i.val; rw [(shared_index t).1]; omega
  | ⟨1, _⟩ => show j.val = win0_13.index t 1 * 512 + 1 * j.val; rw [(shared_index t).2]; omega

/-- The block of point `t` of result 2 starts at row `2048 t`. -/
theorem own_index : ∀ t : Fin grid0.N, win0_14.index t 0 = t.val ∧ win0_14.index t 1 = 0 := by decide +kernel

/-- Result 2 at a row of the block of point `t`: what that point stores. -/
theorem own_stored (i : Fin 2048) :
    ((dats m 0 c).arrAt 14 cfg0.N : S16384x512.Idx → EReal) (ix2 (row t i) j) = (out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i j) : EReal) := by
  have h := congrFun (Value.blocks14 m c t (flush0_14 t)) (ix2 i j)
  rw [View.read_apply, Value.flushed14] at h
  refine Eq.trans (congrArg ((dats m 0 c).arrAt 14 cfg0.N : S16384x512.Idx → EReal) (funext fun a => Fin.ext ?_)) h
  match a with
  | ⟨0, _⟩ => show 2048 * t.val + i.val = win0_14.index t 0 * 2048 + 1 * i.val; rw [(own_index t).1]; omega
  | ⟨1, _⟩ => show j.val = win0_14.index t 1 * 512 + 1 * j.val; rw [(own_index t).2]; omega

/-- Result 1 at an index of a separated row is the plain program's. -/
theorem shared_array (g : Fin 16384)
    (gap : Cert.On_separated.Gap (Cert.ReferenceIdeal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) g) :
    ((dats m 0 c).arrAt 13 cfg0.N : S16384x512.Idx → EReal) (ix2 g j)
      = (Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 g j) : EReal) := by
  classical
  refine Eq.trans ?_ (Cert.ReferenceIdeal.Result.result_shared _ _ _ _ _ _ _ _ g j).symm
  obtain ⟨t, r, rfl | rfl⟩ := row_cases g
  · rw [shared_stored]
    unfold out0_13
    rw [shared_second, shared_first, halves_low]
    exact kept_row _ (sharedTable m c) r _ (shared_low m c t r) gap j
  · rw [shared_stored]
    unfold out0_13
    rw [shared_second, shared_first, halves_high]
    exact kept_row _ (sharedTable m c) r _ (shared_high m c t r) gap j

/-- Result 2 at an index of a separated row is the plain program's. -/
theorem own_array (g : Fin 16384)
    (gap : Cert.On_separated.Gap (Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11))) g) :
    ((dats m 0 c).arrAt 14 cfg0.N : S16384x512.Idx → EReal) (ix2 g j)
      = (Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (ix2 g j) : EReal) := by
  classical
  refine Eq.trans ?_ (Cert.ReferenceIdeal.Result.result_own _ _ _ _ _ _ _ _ _ _ g j).symm
  obtain ⟨t, r, rfl | rfl⟩ := row_cases g
  · rw [own_stored]
    unfold out0_14
    rw [private_second, private_first, halves_low]
    exact kept_row _ (ownTable m c) r _ (own_low m c t r) gap j
  · rw [own_stored]
    unfold out0_14
    rw [private_second, private_first, halves_high]
    exact kept_row _ (ownTable m c) r _ (own_high m c t r) gap j

end Cert.KernelIdeal.Arrays
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_separated
public import proofs.«01_k».proof.Proof.Gen.KernelIdeal.Value
public import proofs.«01_k».proof.Proof.Gen.ReferenceIdeal.Run
public import proofs.«01_k».proof.Proof.Gen.ReferenceIdeal.Read
public import proofs.«01_k».proof.Proof.Arrays
public import Idealize.ShloMosaic.Lib.Quiescent
public import Idealize.ShloMosaic.Adequacy
public import Idealize.ShloMosaic.Init

@[expose] public section

noncomputable section

namespace Cert.Proof

open Idealize.ShloMosaic Idealize.ShloMosaic.ValueIdx Idealize.SL.Sem

/-- The reference's frame: its run keeps the arguments, and it has no semaphore. -/
theorem reference_frame : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Where the mask is set, both programs leave the plain program's two results: in the kernel's case since the row is
    separated there, in the plain program's everywhere. -/
theorem same_results : Cert.algebraic_KernelIdeal_ReferenceIdeal_on_separated := by
  intro m ρ m' ρ' _ hagree
  refine ⟨fun c => Cert.ReferenceIdeal.Read.val_main_v44 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun _ h c => ⟨fun i hi => ?_, fun i hi => ?_, (h c).2.2⟩) (Cert.KernelIdeal.Value.run_blocks (F := Ideal) m ρ)
    · obtain ⟨g, j, rfl⟩ : ∃ (g : Fin 16384) (j : Fin 512), i = ix2 g j := ⟨i 0, i 1, eq_ix2 i⟩
      exact (congrFun (h c).1 (ix2 g j)).trans (Cert.KernelIdeal.Arrays.shared_array j m c g (Cert.ReferenceIdeal.Scores.gap_shared _ _ _ _ _ _ _ _ _ _ _ _ g j hi))
    · obtain ⟨g, j, rfl⟩ : ∃ (g : Fin 16384) (j : Fin 512), i = ix2 g j := ⟨i 0, i 1, eq_ix2 i⟩
      exact (congrFun (h c).2.1 (ix2 g j)).trans (Cert.KernelIdeal.Arrays.own_array j m c g (Cert.ReferenceIdeal.Scores.gap_own _ _ _ _ _ _ _ _ _ _ _ _ g j hi))
  · refine (θ_run Cert.ReferenceIdeal.defs _ _).mono (fun _ h c => ?_) (Cert.ReferenceIdeal.Value.run (F := Ideal) m' ρ')
    obtain ⟨e0, e1, e2, e3, e4, e5, e6, e7, e8, e9, e10, e11⟩ := hagree c
    refine ⟨fun i _ => congrFun ((h c).1.trans ((Cert.ReferenceIdeal.Read.val_main_v44_eq m' c).trans ?_)) i,
      fun i _ => congrFun ((h c).2.1.trans ((Cert.ReferenceIdeal.Read.val_main_v65_eq m' c).trans ?_)) i, (h c).2.2⟩
    · rw [e0, e1, e2, e3, e4, e5, e6, e7]
    · rw [e0, e1, e2, e3, e4, e5, e8, e9, e10, e11]

/-- All that is claimed: the three frames, that the kernel over the extended reals is the kernel, and the results. -/
theorem claim : Cert.Claim :=
  ⟨Cert.Kernel.Gen.facts, Cert.KernelIdeal.Gen.facts, Cert.ReferenceIdeal.Gen.facts, Cert.On_separated.Gen.facts,
    fun m ρ _ => Cert.Kernel.Gen.frame m ρ, fun m ρ _ => Cert.KernelIdeal.Gen.frame m ρ, reference_frame, trivial, same_results⟩

end Cert.Proof

end
